-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S_ : Shape := ⟨0, ![]⟩
abbrev S256x4096 : Shape := ⟨2, ![256, 4096]⟩
abbrev S1024x1024 : Shape := ⟨2, ![1024, 1024]⟩
abbrev S256x1024 : Shape := ⟨2, ![256, 1024]⟩
abbrev S2x256x4096 : Shape := ⟨3, ![2, 256, 4096]⟩
abbrev S2 : Shape := ⟨1, ![2]⟩
abbrev S5x8 : Shape := ⟨2, ![5, 8]⟩
abbrev S1 : Shape := ⟨1, ![1]⟩
abbrev S1x256x4096 : Shape := ⟨3, ![1, 256, 4096]⟩
abbrev S256x256 : Shape := ⟨2, ![256, 256]⟩
abbrev S1x1 : Shape := ⟨2, ![1, 1]⟩
abbrev S256x128 : Shape := ⟨2, ![256, 128]⟩
abbrev S128x128 : Shape := ⟨2, ![128, 128]⟩

abbrev nBuf : Space → Nat
  | .hbm => 28
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S256x4096, .f32⟩
  | .hbm, ⟨26, _⟩ => ⟨S256x4096, .bf16⟩
  | .hbm, ⟨27, _⟩ => ⟨S1024x1024, .f32⟩
  | .local _ .vmem, ⟨0, _⟩ => ⟨S256x4096, .bf16⟩
  | .local _ .vmem, ⟨1, _⟩ => ⟨S1024x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S2x256x4096, .f32⟩
  | .local _ .vmem, ⟨6, _⟩ => ⟨S2x256x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 1 84 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_26 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let c4_i32_25 : BitVec 32 := 4#32
  let v34 : BitVec 32 := Scalar.muli v20 c4_i32_25
  let v35 : BitVec 32 := Scalar.addi c0_i32_26 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v36 : BitVec 32 := Scalar.muli v5 c2_i32_27
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v38 : BitVec 32 := Scalar.muli v8 c1_i32_28
  let v39 : BitVec 32 := Scalar.addi v37 v38
  v39.toNat
def k0_dev2 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v40 : BitVec 32 := Scalar.muli v2 c4_i32_30
  let v41 : BitVec 32 := Scalar.addi c0_i32_31 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v42 : BitVec 32 := Scalar.muli v5 c2_i32_32
  let v43 : BitVec 32 := Scalar.addi v41 v42
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_33 : BitVec 32 := 1#32
  let v44 : BitVec 32 := Scalar.muli v21 c1_i32_33
  let v45 : BitVec 32 := Scalar.addi v43 v44
  v45.toNat
def k0_dev3 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v46 : BitVec 32 := Scalar.muli v2 c4_i32_35
  let v47 : BitVec 32 := Scalar.addi c0_i32_36 v46
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_37 : BitVec 32 := 2#32
  let v48 : BitVec 32 := Scalar.muli v22 c2_i32_37
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v50 : BitVec 32 := Scalar.muli v8 c1_i32_38
  let v51 : BitVec 32 := Scalar.addi v49 v50
  v51.toNat
def k0_dev4 (d0 : Dev nD) : Nat :=
  let c0_i32_62 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let c4_i32_61 : BitVec 32 := 4#32
  let v72 : BitVec 32 := Scalar.muli v20 c4_i32_61
  let v73 : BitVec 32 := Scalar.addi c0_i32_62 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v74 : BitVec 32 := Scalar.muli v5 c2_i32_63
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v76 : BitVec 32 := Scalar.muli v8 c1_i32_64
  let v77 : BitVec 32 := Scalar.addi v75 v76
  v77.toNat
def k0_dev5 (d0 : Dev nD) : Nat :=
  let c0_i32_74 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let c4_i32_73 : BitVec 32 := 4#32
  let v84 : BitVec 32 := Scalar.muli v20 c4_i32_73
  let v85 : BitVec 32 := Scalar.addi c0_i32_74 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v86 : BitVec 32 := Scalar.muli v5 c2_i32_75
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v88 : BitVec 32 := Scalar.muli v8 c1_i32_76
  let v89 : BitVec 32 := Scalar.addi v87 v88
  v89.toNat
def k0_dev6 (d0 : Dev nD) : Nat :=
  let c0_i32_108 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let c4_i32_107 : BitVec 32 := 4#32
  let v121 : BitVec 32 := Scalar.muli v20 c4_i32_107
  let v122 : BitVec 32 := Scalar.addi c0_i32_108 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v123 : BitVec 32 := Scalar.muli v5 c2_i32_109
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v125 : BitVec 32 := Scalar.muli v8 c1_i32_110
  let v126 : BitVec 32 := Scalar.addi v124 v125
  v126.toNat
def k0_dev7 (d0 : Dev nD) : Nat :=
  let c0_i32_120 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let c4_i32_119 : BitVec 32 := 4#32
  let v133 : BitVec 32 := Scalar.muli v20 c4_i32_119
  let v134 : BitVec 32 := Scalar.addi c0_i32_120 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v135 : BitVec 32 := Scalar.muli v5 c2_i32_121
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v137 : BitVec 32 := Scalar.muli v8 c1_i32_122
  let v138 : BitVec 32 := Scalar.addi v136 v137
  v138.toNat
def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let v167 : Index := Scalar.indexCast v17
  let c0_156 : Index := 0#32
  ![v167.toNat, 0]
def k0_off2 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let c0_i32_165 : BitVec 32 := 0#32
  ![v17.toNat, 0]
def k0_dev8 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v171 : BitVec 32 := Scalar.muli v2 c4_i32_161
  let v172 : BitVec 32 := Scalar.addi c0_i32_162 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v173 : BitVec 32 := Scalar.muli v5 c2_i32_163
  let v174 : BitVec 32 := Scalar.addi v172 v173
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_164 : BitVec 32 := 1#32
  let v175 : BitVec 32 := Scalar.muli v21 c1_i32_164
  let v176 : BitVec 32 := Scalar.addi v174 v175
  v176.toNat
def k0_dev9 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_171 : BitVec 32 := 4#32
  let v183 : BitVec 32 := Scalar.muli v2 c4_i32_171
  let v184 : BitVec 32 := Scalar.addi c0_i32_172 v183
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_173 : BitVec 32 := 2#32
  let v185 : BitVec 32 := Scalar.muli v22 c2_i32_173
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v187 : BitVec 32 := Scalar.muli v8 c1_i32_174
  let v188 : BitVec 32 := Scalar.addi v186 v187
  v188.toNat
def k0_off3 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let v212 : Index := Scalar.indexCast v17
  let c128_201 : Index := 128#32
  ![v212.toNat, 128]
def k0_off4 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let c128_i32_210 : BitVec 32 := 128#32
  ![v17.toNat, 128]
def k0_dev10 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_206 : BitVec 32 := 4#32
  let v216 : BitVec 32 := Scalar.muli v2 c4_i32_206
  let v217 : BitVec 32 := Scalar.addi c0_i32_207 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v218 : BitVec 32 := Scalar.muli v5 c2_i32_208
  let v219 : BitVec 32 := Scalar.addi v217 v218
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_209 : BitVec 32 := 1#32
  let v220 : BitVec 32 := Scalar.muli v21 c1_i32_209
  let v221 : BitVec 32 := Scalar.addi v219 v220
  v221.toNat
def k0_dev11 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v228 : BitVec 32 := Scalar.muli v2 c4_i32_216
  let v229 : BitVec 32 := Scalar.addi c0_i32_217 v228
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_218 : BitVec 32 := 2#32
  let v230 : BitVec 32 := Scalar.muli v22 c2_i32_218
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v232 : BitVec 32 := Scalar.muli v8 c1_i32_219
  let v233 : BitVec 32 := Scalar.addi v231 v232
  v233.toNat
def k0_dev12 (d0 : Dev nD) : Nat :=
  let c0_i32_246 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let c4_i32_245 : BitVec 32 := 4#32
  let v260 : BitVec 32 := Scalar.muli v20 c4_i32_245
  let v261 : BitVec 32 := Scalar.addi c0_i32_246 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_247 : BitVec 32 := 2#32
  let v262 : BitVec 32 := Scalar.muli v5 c2_i32_247
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_248 : BitVec 32 := 1#32
  let v264 : BitVec 32 := Scalar.muli v8 c1_i32_248
  let v265 : BitVec 32 := Scalar.addi v263 v264
  v265.toNat
def k0_dev13 (d0 : Dev nD) : Nat :=
  let c0_i32_257 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let c4_i32_256 : BitVec 32 := 4#32
  let v272 : BitVec 32 := Scalar.muli v20 c4_i32_256
  let v273 : BitVec 32 := Scalar.addi c0_i32_257 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v274 : BitVec 32 := Scalar.muli v5 c2_i32_258
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v276 : BitVec 32 := Scalar.muli v8 c1_i32_259
  let v277 : BitVec 32 := Scalar.addi v275 v276
  v277.toNat
def k0_off5 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let v301 : Index := Scalar.indexCast v17
  let c256_288 : Index := 256#32
  ![v301.toNat, 256]
def k0_off6 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let c256_i32_297 : BitVec 32 := 256#32
  ![v17.toNat, 256]
def k0_dev14 (d0 : Dev nD) : Nat :=
  let c0_i32_294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_293 : BitVec 32 := 4#32
  let v305 : BitVec 32 := Scalar.muli v2 c4_i32_293
  let v306 : BitVec 32 := Scalar.addi c0_i32_294 v305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v307 : BitVec 32 := Scalar.muli v5 c2_i32_295
  let v308 : BitVec 32 := Scalar.addi v306 v307
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_296 : BitVec 32 := 1#32
  let v309 : BitVec 32 := Scalar.muli v21 c1_i32_296
  let v310 : BitVec 32 := Scalar.addi v308 v309
  v310.toNat
def k0_dev15 (d0 : Dev nD) : Nat :=
  let c0_i32_304 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_303 : BitVec 32 := 4#32
  let v317 : BitVec 32 := Scalar.muli v2 c4_i32_303
  let v318 : BitVec 32 := Scalar.addi c0_i32_304 v317
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_305 : BitVec 32 := 2#32
  let v319 : BitVec 32 := Scalar.muli v22 c2_i32_305
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_306 : BitVec 32 := 1#32
  let v321 : BitVec 32 := Scalar.muli v8 c1_i32_306
  let v322 : BitVec 32 := Scalar.addi v320 v321
  v322.toNat
def k0_off7 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let v346 : Index := Scalar.indexCast v17
  let c384_333 : Index := 384#32
  ![v346.toNat, 384]
def k0_off8 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let c384_i32_342 : BitVec 32 := 384#32
  ![v17.toNat, 384]
def k0_dev16 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v350 : BitVec 32 := Scalar.muli v2 c4_i32_338
  let v351 : BitVec 32 := Scalar.addi c0_i32_339 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v352 : BitVec 32 := Scalar.muli v5 c2_i32_340
  let v353 : BitVec 32 := Scalar.addi v351 v352
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_341 : BitVec 32 := 1#32
  let v354 : BitVec 32 := Scalar.muli v21 c1_i32_341
  let v355 : BitVec 32 := Scalar.addi v353 v354
  v355.toNat
def k0_dev17 (d0 : Dev nD) : Nat :=
  let c0_i32_349 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_348 : BitVec 32 := 4#32
  let v362 : BitVec 32 := Scalar.muli v2 c4_i32_348
  let v363 : BitVec 32 := Scalar.addi c0_i32_349 v362
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_350 : BitVec 32 := 2#32
  let v364 : BitVec 32 := Scalar.muli v22 c2_i32_350
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_351 : BitVec 32 := 1#32
  let v366 : BitVec 32 := Scalar.muli v8 c1_i32_351
  let v367 : BitVec 32 := Scalar.addi v365 v366
  v367.toNat
def k0_off9 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v11 : BitVec 32 := Scalar.muli v5 c2_i32_4
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c256_i32_8 : BitVec 32 := 256#32
  let v18 : BitVec 32 := Scalar.muli v13 c256_i32_8
  let c128_i32_372 : BitVec 32 := 128#32
  let v389 : BitVec 32 := Scalar.addi v18 c128_i32_372
  let c0_i32_381 : BitVec 32 := 0#32
  ![v389.toNat, 0]
def k0_dev18 (d0 : Dev nD) : Nat :=
  let c0_i32_378 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_377 : BitVec 32 := 4#32
  let v390 : BitVec 32 := Scalar.muli v2 c4_i32_377
  let v391 : BitVec 32 := Scalar.addi c0_i32_378 v390
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_379 : BitVec 32 := 2#32
  let v392 : BitVec 32 := Scalar.muli v22 c2_i32_379
  let v393 : BitVec 32 := Scalar.addi v391 v392
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_380 : BitVec 32 := 1#32
  let v394 : BitVec 32 := Scalar.muli v8 c1_i32_380
  let v395 : BitVec 32 := Scalar.addi v393 v394
  v395.toNat
def k0_off10 (d0 : Dev nD) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_7 : BitVec 32 := 2#32
  let v15 : BitVec 32 := Scalar.muli v14 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_9 : BitVec 32 := 256#32
  let v19 : BitVec 32 := Scalar.muli v16 c256_i32_9
  let c0_i32_408 : BitVec 32 := 0#32
  ![v19.toNat, 0]
def k0_dev19 (d0 : Dev nD) : Nat :=
  let c0_i32_405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_404 : BitVec 32 := 4#32
  let v416 : BitVec 32 := Scalar.muli v2 c4_i32_404
  let v417 : BitVec 32 := Scalar.addi c0_i32_405 v416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_406 : BitVec 32 := 2#32
  let v418 : BitVec 32 := Scalar.muli v5 c2_i32_406
  let v419 : BitVec 32 := Scalar.addi v417 v418
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_407 : BitVec 32 := 1#32
  let v420 : BitVec 32 := Scalar.muli v21 c1_i32_407
  let v421 : BitVec 32 := Scalar.addi v419 v420
  v421.toNat
def k0_off11 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v11 : BitVec 32 := Scalar.muli v5 c2_i32_4
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c256_i32_8 : BitVec 32 := 256#32
  let v18 : BitVec 32 := Scalar.muli v13 c256_i32_8
  let c128_i32_428 : BitVec 32 := 128#32
  let v443 : BitVec 32 := Scalar.addi v18 c128_i32_428
  let c128_i32_437 : BitVec 32 := 128#32
  ![v443.toNat, 128]
def k0_dev20 (d0 : Dev nD) : Nat :=
  let c0_i32_434 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_433 : BitVec 32 := 4#32
  let v444 : BitVec 32 := Scalar.muli v2 c4_i32_433
  let v445 : BitVec 32 := Scalar.addi c0_i32_434 v444
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_435 : BitVec 32 := 2#32
  let v446 : BitVec 32 := Scalar.muli v22 c2_i32_435
  let v447 : BitVec 32 := Scalar.addi v445 v446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_436 : BitVec 32 := 1#32
  let v448 : BitVec 32 := Scalar.muli v8 c1_i32_436
  let v449 : BitVec 32 := Scalar.addi v447 v448
  v449.toNat
def k0_off12 (d0 : Dev nD) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_7 : BitVec 32 := 2#32
  let v15 : BitVec 32 := Scalar.muli v14 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_9 : BitVec 32 := 256#32
  let v19 : BitVec 32 := Scalar.muli v16 c256_i32_9
  let c128_i32_464 : BitVec 32 := 128#32
  ![v19.toNat, 128]
def k0_dev21 (d0 : Dev nD) : Nat :=
  let c0_i32_461 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_460 : BitVec 32 := 4#32
  let v470 : BitVec 32 := Scalar.muli v2 c4_i32_460
  let v471 : BitVec 32 := Scalar.addi c0_i32_461 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_462 : BitVec 32 := 2#32
  let v472 : BitVec 32 := Scalar.muli v5 c2_i32_462
  let v473 : BitVec 32 := Scalar.addi v471 v472
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_463 : BitVec 32 := 1#32
  let v474 : BitVec 32 := Scalar.muli v21 c1_i32_463
  let v475 : BitVec 32 := Scalar.addi v473 v474
  v475.toNat
def k0_dev22 (d0 : Dev nD) : Nat :=
  let c0_i32_489 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let c4_i32_488 : BitVec 32 := 4#32
  let v502 : BitVec 32 := Scalar.muli v20 c4_i32_488
  let v503 : BitVec 32 := Scalar.addi c0_i32_489 v502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_490 : BitVec 32 := 2#32
  let v504 : BitVec 32 := Scalar.muli v5 c2_i32_490
  let v505 : BitVec 32 := Scalar.addi v503 v504
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_491 : BitVec 32 := 1#32
  let v506 : BitVec 32 := Scalar.muli v8 c1_i32_491
  let v507 : BitVec 32 := Scalar.addi v505 v506
  v507.toNat
def k0_dev23 (d0 : Dev nD) : Nat :=
  let c0_i32_500 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let c4_i32_499 : BitVec 32 := 4#32
  let v514 : BitVec 32 := Scalar.muli v20 c4_i32_499
  let v515 : BitVec 32 := Scalar.addi c0_i32_500 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_501 : BitVec 32 := 2#32
  let v516 : BitVec 32 := Scalar.muli v5 c2_i32_501
  let v517 : BitVec 32 := Scalar.addi v515 v516
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_502 : BitVec 32 := 1#32
  let v518 : BitVec 32 := Scalar.muli v8 c1_i32_502
  let v519 : BitVec 32 := Scalar.addi v517 v518
  v519.toNat
def k0_off13 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let v543 : Index := Scalar.indexCast v17
  let c512_531 : Index := 512#32
  ![v543.toNat, 512]
def k0_off14 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let c512_i32_540 : BitVec 32 := 512#32
  ![v17.toNat, 512]
def k0_dev24 (d0 : Dev nD) : Nat :=
  let c0_i32_537 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_536 : BitVec 32 := 4#32
  let v547 : BitVec 32 := Scalar.muli v2 c4_i32_536
  let v548 : BitVec 32 := Scalar.addi c0_i32_537 v547
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_538 : BitVec 32 := 2#32
  let v549 : BitVec 32 := Scalar.muli v5 c2_i32_538
  let v550 : BitVec 32 := Scalar.addi v548 v549
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_539 : BitVec 32 := 1#32
  let v551 : BitVec 32 := Scalar.muli v21 c1_i32_539
  let v552 : BitVec 32 := Scalar.addi v550 v551
  v552.toNat
def k0_dev25 (d0 : Dev nD) : Nat :=
  let c0_i32_547 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_546 : BitVec 32 := 4#32
  let v559 : BitVec 32 := Scalar.muli v2 c4_i32_546
  let v560 : BitVec 32 := Scalar.addi c0_i32_547 v559
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_548 : BitVec 32 := 2#32
  let v561 : BitVec 32 := Scalar.muli v22 c2_i32_548
  let v562 : BitVec 32 := Scalar.addi v560 v561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_549 : BitVec 32 := 1#32
  let v563 : BitVec 32 := Scalar.muli v8 c1_i32_549
  let v564 : BitVec 32 := Scalar.addi v562 v563
  v564.toNat
def k0_off15 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let v588 : Index := Scalar.indexCast v17
  let c640_576 : Index := 640#32
  ![v588.toNat, 640]
def k0_off16 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let c640_i32_585 : BitVec 32 := 640#32
  ![v17.toNat, 640]
def k0_dev26 (d0 : Dev nD) : Nat :=
  let c0_i32_582 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_581 : BitVec 32 := 4#32
  let v592 : BitVec 32 := Scalar.muli v2 c4_i32_581
  let v593 : BitVec 32 := Scalar.addi c0_i32_582 v592
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_583 : BitVec 32 := 2#32
  let v594 : BitVec 32 := Scalar.muli v5 c2_i32_583
  let v595 : BitVec 32 := Scalar.addi v593 v594
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_584 : BitVec 32 := 1#32
  let v596 : BitVec 32 := Scalar.muli v21 c1_i32_584
  let v597 : BitVec 32 := Scalar.addi v595 v596
  v597.toNat
def k0_dev27 (d0 : Dev nD) : Nat :=
  let c0_i32_592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_591 : BitVec 32 := 4#32
  let v604 : BitVec 32 := Scalar.muli v2 c4_i32_591
  let v605 : BitVec 32 := Scalar.addi c0_i32_592 v604
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_593 : BitVec 32 := 2#32
  let v606 : BitVec 32 := Scalar.muli v22 c2_i32_593
  let v607 : BitVec 32 := Scalar.addi v605 v606
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_594 : BitVec 32 := 1#32
  let v608 : BitVec 32 := Scalar.muli v8 c1_i32_594
  let v609 : BitVec 32 := Scalar.addi v607 v608
  v609.toNat
def k0_off17 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v11 : BitVec 32 := Scalar.muli v5 c2_i32_4
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c256_i32_8 : BitVec 32 := 256#32
  let v18 : BitVec 32 := Scalar.muli v13 c256_i32_8
  let c128_i32_615 : BitVec 32 := 128#32
  let v631 : BitVec 32 := Scalar.addi v18 c128_i32_615
  let c256_i32_624 : BitVec 32 := 256#32
  ![v631.toNat, 256]
def k0_dev28 (d0 : Dev nD) : Nat :=
  let c0_i32_621 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_620 : BitVec 32 := 4#32
  let v632 : BitVec 32 := Scalar.muli v2 c4_i32_620
  let v633 : BitVec 32 := Scalar.addi c0_i32_621 v632
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_622 : BitVec 32 := 2#32
  let v634 : BitVec 32 := Scalar.muli v22 c2_i32_622
  let v635 : BitVec 32 := Scalar.addi v633 v634
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_623 : BitVec 32 := 1#32
  let v636 : BitVec 32 := Scalar.muli v8 c1_i32_623
  let v637 : BitVec 32 := Scalar.addi v635 v636
  v637.toNat
def k0_off18 (d0 : Dev nD) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_7 : BitVec 32 := 2#32
  let v15 : BitVec 32 := Scalar.muli v14 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_9 : BitVec 32 := 256#32
  let v19 : BitVec 32 := Scalar.muli v16 c256_i32_9
  let c256_i32_651 : BitVec 32 := 256#32
  ![v19.toNat, 256]
def k0_dev29 (d0 : Dev nD) : Nat :=
  let c0_i32_648 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_647 : BitVec 32 := 4#32
  let v658 : BitVec 32 := Scalar.muli v2 c4_i32_647
  let v659 : BitVec 32 := Scalar.addi c0_i32_648 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_649 : BitVec 32 := 2#32
  let v660 : BitVec 32 := Scalar.muli v5 c2_i32_649
  let v661 : BitVec 32 := Scalar.addi v659 v660
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_650 : BitVec 32 := 1#32
  let v662 : BitVec 32 := Scalar.muli v21 c1_i32_650
  let v663 : BitVec 32 := Scalar.addi v661 v662
  v663.toNat
def k0_off19 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v11 : BitVec 32 := Scalar.muli v5 c2_i32_4
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c256_i32_8 : BitVec 32 := 256#32
  let v18 : BitVec 32 := Scalar.muli v13 c256_i32_8
  let c128_i32_671 : BitVec 32 := 128#32
  let v685 : BitVec 32 := Scalar.addi v18 c128_i32_671
  let c384_i32_680 : BitVec 32 := 384#32
  ![v685.toNat, 384]
def k0_dev30 (d0 : Dev nD) : Nat :=
  let c0_i32_677 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_676 : BitVec 32 := 4#32
  let v686 : BitVec 32 := Scalar.muli v2 c4_i32_676
  let v687 : BitVec 32 := Scalar.addi c0_i32_677 v686
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_678 : BitVec 32 := 2#32
  let v688 : BitVec 32 := Scalar.muli v22 c2_i32_678
  let v689 : BitVec 32 := Scalar.addi v687 v688
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_679 : BitVec 32 := 1#32
  let v690 : BitVec 32 := Scalar.muli v8 c1_i32_679
  let v691 : BitVec 32 := Scalar.addi v689 v690
  v691.toNat
def k0_off20 (d0 : Dev nD) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_7 : BitVec 32 := 2#32
  let v15 : BitVec 32 := Scalar.muli v14 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_9 : BitVec 32 := 256#32
  let v19 : BitVec 32 := Scalar.muli v16 c256_i32_9
  let c384_i32_707 : BitVec 32 := 384#32
  ![v19.toNat, 384]
def k0_dev31 (d0 : Dev nD) : Nat :=
  let c0_i32_704 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_703 : BitVec 32 := 4#32
  let v712 : BitVec 32 := Scalar.muli v2 c4_i32_703
  let v713 : BitVec 32 := Scalar.addi c0_i32_704 v712
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_705 : BitVec 32 := 2#32
  let v714 : BitVec 32 := Scalar.muli v5 c2_i32_705
  let v715 : BitVec 32 := Scalar.addi v713 v714
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_706 : BitVec 32 := 1#32
  let v716 : BitVec 32 := Scalar.muli v21 c1_i32_706
  let v717 : BitVec 32 := Scalar.addi v715 v716
  v717.toNat
def k0_off21 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let v741 : Index := Scalar.indexCast v17
  let c768_734 : Index := 768#32
  ![v741.toNat, 768]
def k0_off22 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let c768_i32_743 : BitVec 32 := 768#32
  ![v17.toNat, 768]
def k0_dev32 (d0 : Dev nD) : Nat :=
  let c0_i32_740 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_739 : BitVec 32 := 4#32
  let v745 : BitVec 32 := Scalar.muli v2 c4_i32_739
  let v746 : BitVec 32 := Scalar.addi c0_i32_740 v745
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_741 : BitVec 32 := 2#32
  let v747 : BitVec 32 := Scalar.muli v5 c2_i32_741
  let v748 : BitVec 32 := Scalar.addi v746 v747
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_742 : BitVec 32 := 1#32
  let v749 : BitVec 32 := Scalar.muli v21 c1_i32_742
  let v750 : BitVec 32 := Scalar.addi v748 v749
  v750.toNat
def k0_dev33 (d0 : Dev nD) : Nat :=
  let c0_i32_750 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_749 : BitVec 32 := 4#32
  let v757 : BitVec 32 := Scalar.muli v2 c4_i32_749
  let v758 : BitVec 32 := Scalar.addi c0_i32_750 v757
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_751 : BitVec 32 := 2#32
  let v759 : BitVec 32 := Scalar.muli v22 c2_i32_751
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_752 : BitVec 32 := 1#32
  let v761 : BitVec 32 := Scalar.muli v8 c1_i32_752
  let v762 : BitVec 32 := Scalar.addi v760 v761
  v762.toNat
def k0_off23 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let v786 : Index := Scalar.indexCast v17
  let c896_779 : Index := 896#32
  ![v786.toNat, 896]
def k0_off24 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let c896_i32_788 : BitVec 32 := 896#32
  ![v17.toNat, 896]
def k0_dev34 (d0 : Dev nD) : Nat :=
  let c0_i32_785 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_784 : BitVec 32 := 4#32
  let v790 : BitVec 32 := Scalar.muli v2 c4_i32_784
  let v791 : BitVec 32 := Scalar.addi c0_i32_785 v790
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_786 : BitVec 32 := 2#32
  let v792 : BitVec 32 := Scalar.muli v5 c2_i32_786
  let v793 : BitVec 32 := Scalar.addi v791 v792
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_787 : BitVec 32 := 1#32
  let v794 : BitVec 32 := Scalar.muli v21 c1_i32_787
  let v795 : BitVec 32 := Scalar.addi v793 v794
  v795.toNat
def k0_dev35 (d0 : Dev nD) : Nat :=
  let c0_i32_795 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_794 : BitVec 32 := 4#32
  let v802 : BitVec 32 := Scalar.muli v2 c4_i32_794
  let v803 : BitVec 32 := Scalar.addi c0_i32_795 v802
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_796 : BitVec 32 := 2#32
  let v804 : BitVec 32 := Scalar.muli v22 c2_i32_796
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_797 : BitVec 32 := 1#32
  let v806 : BitVec 32 := Scalar.muli v8 c1_i32_797
  let v807 : BitVec 32 := Scalar.addi v805 v806
  v807.toNat
def k0_off25 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v11 : BitVec 32 := Scalar.muli v5 c2_i32_4
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c256_i32_8 : BitVec 32 := 256#32
  let v18 : BitVec 32 := Scalar.muli v13 c256_i32_8
  let c128_i32_818 : BitVec 32 := 128#32
  let v829 : BitVec 32 := Scalar.addi v18 c128_i32_818
  let c512_i32_827 : BitVec 32 := 512#32
  ![v829.toNat, 512]
def k0_dev36 (d0 : Dev nD) : Nat :=
  let c0_i32_824 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_823 : BitVec 32 := 4#32
  let v830 : BitVec 32 := Scalar.muli v2 c4_i32_823
  let v831 : BitVec 32 := Scalar.addi c0_i32_824 v830
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_825 : BitVec 32 := 2#32
  let v832 : BitVec 32 := Scalar.muli v22 c2_i32_825
  let v833 : BitVec 32 := Scalar.addi v831 v832
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_826 : BitVec 32 := 1#32
  let v834 : BitVec 32 := Scalar.muli v8 c1_i32_826
  let v835 : BitVec 32 := Scalar.addi v833 v834
  v835.toNat
def k0_off26 (d0 : Dev nD) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_7 : BitVec 32 := 2#32
  let v15 : BitVec 32 := Scalar.muli v14 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_9 : BitVec 32 := 256#32
  let v19 : BitVec 32 := Scalar.muli v16 c256_i32_9
  let c512_i32_854 : BitVec 32 := 512#32
  ![v19.toNat, 512]
def k0_dev37 (d0 : Dev nD) : Nat :=
  let c0_i32_851 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_850 : BitVec 32 := 4#32
  let v856 : BitVec 32 := Scalar.muli v2 c4_i32_850
  let v857 : BitVec 32 := Scalar.addi c0_i32_851 v856
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_852 : BitVec 32 := 2#32
  let v858 : BitVec 32 := Scalar.muli v5 c2_i32_852
  let v859 : BitVec 32 := Scalar.addi v857 v858
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_853 : BitVec 32 := 1#32
  let v860 : BitVec 32 := Scalar.muli v21 c1_i32_853
  let v861 : BitVec 32 := Scalar.addi v859 v860
  v861.toNat
def k0_off27 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v11 : BitVec 32 := Scalar.muli v5 c2_i32_4
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c256_i32_8 : BitVec 32 := 256#32
  let v18 : BitVec 32 := Scalar.muli v13 c256_i32_8
  let c128_i32_874 : BitVec 32 := 128#32
  let v883 : BitVec 32 := Scalar.addi v18 c128_i32_874
  let c640_i32_883 : BitVec 32 := 640#32
  ![v883.toNat, 640]
def k0_dev38 (d0 : Dev nD) : Nat :=
  let c0_i32_880 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_879 : BitVec 32 := 4#32
  let v884 : BitVec 32 := Scalar.muli v2 c4_i32_879
  let v885 : BitVec 32 := Scalar.addi c0_i32_880 v884
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_881 : BitVec 32 := 2#32
  let v886 : BitVec 32 := Scalar.muli v22 c2_i32_881
  let v887 : BitVec 32 := Scalar.addi v885 v886
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_882 : BitVec 32 := 1#32
  let v888 : BitVec 32 := Scalar.muli v8 c1_i32_882
  let v889 : BitVec 32 := Scalar.addi v887 v888
  v889.toNat
def k0_off28 (d0 : Dev nD) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_7 : BitVec 32 := 2#32
  let v15 : BitVec 32 := Scalar.muli v14 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_9 : BitVec 32 := 256#32
  let v19 : BitVec 32 := Scalar.muli v16 c256_i32_9
  let c640_i32_910 : BitVec 32 := 640#32
  ![v19.toNat, 640]
def k0_dev39 (d0 : Dev nD) : Nat :=
  let c0_i32_907 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_906 : BitVec 32 := 4#32
  let v910 : BitVec 32 := Scalar.muli v2 c4_i32_906
  let v911 : BitVec 32 := Scalar.addi c0_i32_907 v910
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_908 : BitVec 32 := 2#32
  let v912 : BitVec 32 := Scalar.muli v5 c2_i32_908
  let v913 : BitVec 32 := Scalar.addi v911 v912
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_909 : BitVec 32 := 1#32
  let v914 : BitVec 32 := Scalar.muli v21 c1_i32_909
  let v915 : BitVec 32 := Scalar.addi v913 v914
  v915.toNat
def k0_off29 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v11 : BitVec 32 := Scalar.muli v5 c2_i32_4
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c256_i32_8 : BitVec 32 := 256#32
  let v18 : BitVec 32 := Scalar.muli v13 c256_i32_8
  let c128_i32_930 : BitVec 32 := 128#32
  let v937 : BitVec 32 := Scalar.addi v18 c128_i32_930
  let c768_i32_939 : BitVec 32 := 768#32
  ![v937.toNat, 768]
def k0_dev40 (d0 : Dev nD) : Nat :=
  let c0_i32_936 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_935 : BitVec 32 := 4#32
  let v938 : BitVec 32 := Scalar.muli v2 c4_i32_935
  let v939 : BitVec 32 := Scalar.addi c0_i32_936 v938
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_937 : BitVec 32 := 2#32
  let v940 : BitVec 32 := Scalar.muli v22 c2_i32_937
  let v941 : BitVec 32 := Scalar.addi v939 v940
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_938 : BitVec 32 := 1#32
  let v942 : BitVec 32 := Scalar.muli v8 c1_i32_938
  let v943 : BitVec 32 := Scalar.addi v941 v942
  v943.toNat
def k0_off30 (d0 : Dev nD) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_7 : BitVec 32 := 2#32
  let v15 : BitVec 32 := Scalar.muli v14 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_9 : BitVec 32 := 256#32
  let v19 : BitVec 32 := Scalar.muli v16 c256_i32_9
  let c768_i32_966 : BitVec 32 := 768#32
  ![v19.toNat, 768]
def k0_dev41 (d0 : Dev nD) : Nat :=
  let c0_i32_963 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_962 : BitVec 32 := 4#32
  let v964 : BitVec 32 := Scalar.muli v2 c4_i32_962
  let v965 : BitVec 32 := Scalar.addi c0_i32_963 v964
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_964 : BitVec 32 := 2#32
  let v966 : BitVec 32 := Scalar.muli v5 c2_i32_964
  let v967 : BitVec 32 := Scalar.addi v965 v966
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_965 : BitVec 32 := 1#32
  let v968 : BitVec 32 := Scalar.muli v21 c1_i32_965
  let v969 : BitVec 32 := Scalar.addi v967 v968
  v969.toNat
def k0_off31 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v11 : BitVec 32 := Scalar.muli v5 c2_i32_4
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c256_i32_8 : BitVec 32 := 256#32
  let v18 : BitVec 32 := Scalar.muli v13 c256_i32_8
  let c128_i32_986 : BitVec 32 := 128#32
  let v991 : BitVec 32 := Scalar.addi v18 c128_i32_986
  let c896_i32_995 : BitVec 32 := 896#32
  ![v991.toNat, 896]
def k0_dev42 (d0 : Dev nD) : Nat :=
  let c0_i32_992 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_991 : BitVec 32 := 4#32
  let v992 : BitVec 32 := Scalar.muli v2 c4_i32_991
  let v993 : BitVec 32 := Scalar.addi c0_i32_992 v992
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_993 : BitVec 32 := 2#32
  let v994 : BitVec 32 := Scalar.muli v22 c2_i32_993
  let v995 : BitVec 32 := Scalar.addi v993 v994
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_994 : BitVec 32 := 1#32
  let v996 : BitVec 32 := Scalar.muli v8 c1_i32_994
  let v997 : BitVec 32 := Scalar.addi v995 v996
  v997.toNat
def k0_off32 (d0 : Dev nD) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_7 : BitVec 32 := 2#32
  let v15 : BitVec 32 := Scalar.muli v14 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_9 : BitVec 32 := 256#32
  let v19 : BitVec 32 := Scalar.muli v16 c256_i32_9
  let c896_i32_1022 : BitVec 32 := 896#32
  ![v19.toNat, 896]
def k0_dev43 (d0 : Dev nD) : Nat :=
  let c0_i32_1019 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1018 : BitVec 32 := 4#32
  let v1018 : BitVec 32 := Scalar.muli v2 c4_i32_1018
  let v1019 : BitVec 32 := Scalar.addi c0_i32_1019 v1018
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1020 : BitVec 32 := 2#32
  let v1020 : BitVec 32 := Scalar.muli v5 c2_i32_1020
  let v1021 : BitVec 32 := Scalar.addi v1019 v1020
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_1021 : BitVec 32 := 1#32
  let v1022 : BitVec 32 := Scalar.muli v21 c1_i32_1021
  let v1023 : BitVec 32 := Scalar.addi v1021 v1022
  v1023.toNat
def k0_off33 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v17 : BitVec 32 := Scalar.muli v10 c256_i32
  let v1030 : Index := Scalar.indexCast v17
  let c0_1024 : Index := 0#32
  ![v1030.toNat, 0]
def k0_off34 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v11 : BitVec 32 := Scalar.muli v5 c2_i32_4
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c256_i32_8 : BitVec 32 := 256#32
  let v18 : BitVec 32 := Scalar.muli v13 c256_i32_8
  let v1035 : Index := Scalar.indexCast v18
  let c0_1026 : Index := 0#32
  ![v1035.toNat, 0]
def k0_off35 (d0 : Dev nD) : Fin 2 → Nat :=
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_7 : BitVec 32 := 2#32
  let v15 : BitVec 32 := Scalar.muli v14 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_9 : BitVec 32 := 256#32
  let v19 : BitVec 32 := Scalar.muli v16 c256_i32_9
  let v1040 : Index := Scalar.indexCast v19
  let c0_1028 : Index := 0#32
  ![v1040.toNat, 0]
def k0_off36 (d0 : Dev nD) : Fin 2 → Nat :=
  let c1_i32_1302 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1269 : BitVec 32 := Scalar.subi c1_i32_1302 v5
  let c2_i32_1303 : BitVec 32 := 2#32
  let v1270 : BitVec 32 := Scalar.muli v1269 c2_i32_1303
  let c1_i32_1304 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1271 : BitVec 32 := Scalar.subi c1_i32_1304 v8
  let v1272 : BitVec 32 := Scalar.addi v1270 v1271
  let c256_i32_1305 : BitVec 32 := 256#32
  let v1273 : BitVec 32 := Scalar.muli v1272 c256_i32_1305
  let v1274 : Index := Scalar.indexCast v1273
  let c0_1306 : Index := 0#32
  ![v1274.toNat, 0]
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Body.lean ====
/- The kernel's body written by steps that take the chunk as a parameter: a matrix product into two
   column chunks, a send along the first mesh axis, a reduction followed by its two sends, a
   forwarding step, and the last reads. The printed body is these steps in order. -/
module

public import proofs.«01_k».proof.Proof.Gen.KernelIdeal.Points
public import proofs.«01_k».proof.Proof.Gen.KernelIdeal.Skeleton

@[expose] public section

set_option backward.proofsInPublic true

noncomputable section

namespace Cert.KernelIdeal.Steps

open Idealize.ShloMosaic Idealize.ShloMosaic.TcCoe
open Idealize.SL Idealize.SL.Sem
open Cert.KernelIdeal.Gen

variable {F : FTy → Type} [FloatOps F]

/-! ## Semaphores -/

/-- The semaphore a transfer of phase `e.1`, chunk `e.2` releases its source on. -/
abbrev sendS (e : Fin 5 × Fin 8) : DmaSem sig := ⟨4 + (8 * e.1.val + e.2.val), by
  have h1 := e.1.isLt; have h2 := e.2.isLt
  show 4 + (8 * e.1.val + e.2.val) < 84
  omega⟩
/-- The semaphore it announces its landing on. -/
abbrev recvS (e : Fin 5 × Fin 8) : DmaSem sig := ⟨44 + (8 * e.1.val + e.2.val), by
  have h1 := e.1.isLt; have h2 := e.2.isLt
  show 44 + (8 * e.1.val + e.2.val) < 84
  omega⟩
/-- The semaphore of the weight copy into slot `s`. -/
abbrev copyS (s : Fin 2) : DmaSem sig := ⟨2 + s.val, by
  have h := s.isLt
  show 2 + s.val < 84
  omega⟩
/-- The barrier semaphore. -/
abbrev barS : Sem sig := sig.barrier 0 rfl

/-! ## Pieces of the buffers -/

theorem inbP (k : Fin 8) : ∀ a, (![0, 128 * k.val] : Fin 2 → ℕ) a + S256x128.size a ≤ S256x1024.size a := by
  revert k; decide
theorem wwP : ∀ k : Fin 8, (Rect.unit (s := S256x1024) ![0, 128 * k.val] S256x128.size (inbP k)).WholeWords (EltTy.packing .bf16) := by
  decide
/-- Column chunk `k` of a 256-row operand. -/
abbrev rP (k : Fin 8) : Rect S256x1024 := Rect.unit (s := S256x1024) ![0, 128 * k.val] S256x128.size (inbP k)
abbrev partB (k : Fin 8) : Memref sig .tc .vmem S256x128 .bf16 := (Memref.whole cc0_scratch0).slice (rP k) (fun _ => rfl)
abbrev recvB (k : Fin 8) : Memref sig .tc .vmem S256x128 .bf16 := (Memref.whole cc0_scratch1).slice (rP k) (fun _ => rfl)

theorem inbQ (p : Fin 4) : ∀ a, (![0, 256 * p.val] : Fin 2 → ℕ) a + S256x256.size a ≤ S256x1024.size a := by
  revert p; decide
theorem prQ : ∀ p : Fin 4, (Rect.unit (s := S256x1024) ![0, 256 * p.val] S256x256.size (inbQ p)).PackedRows (EltTy.packing .bf16) := by
  decide
/-- The two column chunks product `p` fills. -/
abbrev rQ (p : Fin 4) : Rect S256x1024 := Rect.unit (s := S256x1024) ![0, 256 * p.val] S256x256.size (inbQ p)

/-- A block of `n` rows starting at an even row `o` of the 1024. -/
structure RowOk (o n : ℕ) : Prop where
  le : o + n ≤ 1024
  dv : 2 ∣ o

theorem inbG {o : ℕ} (h : RowOk o 256) (k : Fin 8) : ∀ a, (![o, 128 * k.val] : Fin 2 → ℕ) a + S256x128.size a ≤ S1024x1024.size a := by
  have := h.le; have hk := k.isLt
  intro a; fin_cases a
  · exact this
  · show 128 * k.val + 128 ≤ 1024; omega
theorem prG {o : ℕ} (h : RowOk o 256) (k : Fin 8) : (Rect.unit (s := S1024x1024) ![o, 128 * k.val] S256x128.size (inbG h k)).PackedRows (EltTy.packing .bf16) := by
  have h2 : 2 ≤ S1024x1024.rank := by decide
  refine .inr ⟨h2, rfl, .inl ⟨h.dv, ?_⟩⟩
  show 2 ∣ 256
  decide
abbrev rG {o : ℕ} (h : RowOk o 256) (k : Fin 8) : Rect S1024x1024 := Rect.unit (s := S1024x1024) ![o, 128 * k.val] S256x128.size (inbG h k)
/-- Rows `o … o+255`, column chunk `k` of the gathered buffer. -/
abbrev gatB {o : ℕ} (h : RowOk o 256) (k : Fin 8) : Memref sig .tc .vmem S256x128 .bf16 := (Memref.whole cc0_scratch2).slice (rG h k) (fun _ => rfl)

theorem inbH {o : ℕ} (h : RowOk o 128) (k : Fin 8) : ∀ a, (![o, 128 * k.val] : Fin 2 → ℕ) a + S128x128.size a ≤ S1024x1024.size a := by
  have := h.le; have hk := k.isLt
  intro a; fin_cases a
  · exact this
  · show 128 * k.val + 128 ≤ 1024; omega
theorem prH {o : ℕ} (h : RowOk o 128) (k : Fin 8) : (Rect.unit (s := S1024x1024) ![o, 128 * k.val] S128x128.size (inbH h k)).PackedRows (EltTy.packing .bf16) := by
  have h2 : 2 ≤ S1024x1024.rank := by decide
  refine .inr ⟨h2, rfl, .inl ⟨h.dv, ?_⟩⟩
  show 2 ∣ 128
  decide
abbrev rH {o : ℕ} (h : RowOk o 128) (k : Fin 8) : Rect S1024x1024 := Rect.unit (s := S1024x1024) ![o, 128 * k.val] S128x128.size (inbH h k)
/-- Rows `o … o+127`, column chunk `k` of the gathered buffer. -/
abbrev gatH {o : ℕ} (h : RowOk o 128) (k : Fin 8) : Memref sig .tc .vmem S128x128 .bf16 := (Memref.whole cc0_scratch2).slice (rH h k) (fun _ => rfl)

theorem inbR {o : ℕ} (h : RowOk o 256) : ∀ a, (![o, 0] : Fin 2 → ℕ) a + S256x1024.size a ≤ S1024x1024.size a := by
  have := h.le
  intro a; fin_cases a
  · exact this
  · exact le_refl 1024
/-- Rows `o … o+255`, whole. -/
abbrev rR {o : ℕ} (h : RowOk o 256) : Rect S1024x1024 := Rect.unit (s := S1024x1024) ![o, 0] S256x1024.size (inbR h)

theorem inbW (p : Fin 4) : ∀ a, (![256 * p.val, 0] : Fin 2 → ℕ) a + S256x4096.size a ≤ S1024x4096.size a := by
  revert p; decide
/-- Rows `256p … 256p+255` of the weights. -/
abbrev wB (p : Fin 4) : Memref sig .tc .hbm S256x4096 .f32 :=
  (Memref.whole main_arg1).slice (Rect.unit (s := S1024x4096) ![256 * p.val, 0] S256x4096.size (inbW p)) (fun _ => rfl)
/-- The slot product `p` uses. -/
abbrev slot (p : Fin 4) : Fin 2 := ⟨p.val % 2, Nat.mod_lt _ (by decide)⟩
theorem inbS (s : Fin 2) : ∀ a, (![s.val, 0, 0] : Fin 3 → ℕ) a + S1x256x4096.size a ≤ S2x256x4096.size a := by
  revert s; decide
theorem prS : ∀ s : Fin 2, (Rect.unit (s := S2x256x4096) ![s.val, 0, 0] S1x256x4096.size (inbS s)).PackedRows (EltTy.packing .bf16) := by
  decide
abbrev rS (s : Fin 2) : Rect S2x256x4096 := Rect.unit (s := S2x256x4096) ![s.val, 0, 0] S1x256x4096.size (inbS s)
/-- Slot `s` of the weight staging buffer. -/
abbrev wbB (s : Fin 2) : Memref sig .tc .vmem S256x4096 .f32 :=
  ((Memref.whole cc0_scratch3).slice (rS s) (fun _ => rfl)).squeeze S256x4096 squeezes_S1x256x4096_S256x4096

/-! ## The steps -/

abbrev Pg (F : FTy → Type) [FloatOps F] := Prog (TpuEff nD τ sig (Elt F) Λ₀ .tc) PUnit

/-- Start the copy of weight rows `256p …` into their slot. -/
def copyP (p : Fin 4) : Pg F :=
  Prog.lift (.enqueueDma (wB p) (.here (wbB (slot p))) (.dma (copyS (slot p))) (View.wordExact_bits rfl) ((View.wordExact_bits rfl).reshape _ _) ⟨Or.inl rfl, trivial⟩)

/-- Tell the three neighbours, and wait for their three signals. -/
def barP (dx dz dy : Dev nD) : Pg F := do
  semSignalWord dx barS 1#32
  semSignalWord dz barS 1#32
  semSignalWord dy barS 1#32
  semWaitWord barS 3#32

/-- Wait for weight rows `256p …`, round them, multiply, and store the two column chunks. -/
def prodP (a0 : Memref sig .tc .vmem S256x4096 .bf16) (p : Fin 4) : Pg F := do
  Prog.lift (.waitDma2 (copyS (slot p)) (wB p) (wbB (slot p)) (View.wordExact_bits rfl) ((View.wordExact_bits rfl).reshape _ _))
  let v : Vec F S1x256x4096 .f32 ← Prog.lift (.load (Memref.whole cc0_scratch3) (rS (slot p)).toLoadRect (View.loadsAt_vmem h_S1x256x4096))
  let _ : Vec F S1x256x4096 .bf16 ← Prog.lift (.load (Memref.whole cc0_scratch4) (rS (slot p)).toLoadRect (View.loadsAt_vmem h_S1x256x4096))
  Prog.lift (.store (Memref.whole cc0_scratch4) (rS (slot p)) (k0_pay2 v) Finset.univ (View.stores_vmem h_S1x256x4096 ((Memref.isWhole_whole _).storeExact_slice rfl _ (prS (slot p))) (fun _ => rfl)) (.inl rfl))
  let a : Vec F S256x4096 .bf16 ← Prog.lift (.load a0 (Rect.unit (s := S256x4096) ![0, 0] S256x4096.size inb_S256x4096_S256x4096_0_0).toLoadRect (View.loadsAt_vmem h_S256x4096))
  let w : Vec F S1x256x4096 .bf16 ← Prog.lift (.load (Memref.whole cc0_scratch4) (rS (slot p)).toLoadRect (View.loadsAt_vmem h_S1x256x4096))
  let _ : Vec F S256x256 .bf16 ← Prog.lift (.load (Memref.whole cc0_scratch0) (rQ p).toLoadRect (View.loadsAt_vmem h_S256x256))
  Prog.lift (.store (Memref.whole cc0_scratch0) (rQ p) (k0_pay3 a w) Finset.univ (View.stores_vmem h_S256x256 ((Memref.isWhole_whole _).storeExact_slice rfl _ (prQ p)) (fun _ => rfl)) (.inl rfl))

/-- Send a chunk of the product to the neighbour along the first axis. -/
def sendXP (dx : Dev nD) (k : Fin 8) : Pg F :=
  Prog.lift (.enqueueDma (partB k) (.remote (Dev.tc dx) (recvB k) (.dma (sendS (0, k)))) (.dma (recvS (0, k))) ((Memref.isWhole_whole _).wordExact_slice rfl _ (wwP k)) ((Memref.isWhole_whole _).wordExact_slice rfl _ (wwP k)) ⟨⟨rfl, Or.inl rfl⟩, trivial⟩)

/-- Send rows `o … o+255` of chunk `k` to `d`, into the same place there. -/
def sendBP (ph : Fin 5) (d : Dev nD) {o : ℕ} (h : RowOk o 256) (k : Fin 8) : Pg F :=
  Prog.lift (.enqueueDma (gatB h k) (.remote (Dev.tc d) (gatB h k) (.dma (sendS (ph, k)))) (.dma (recvS (ph, k))) ((Memref.isWhole_whole _).wordExact_slice rfl _ (prG h k).wholeWords) ((Memref.isWhole_whole _).wordExact_slice rfl _ (prG h k).wholeWords) ⟨⟨rfl, Or.inl rfl⟩, trivial⟩)

/-- Send rows `o … o+127` of chunk `k` to `d`, into the same place there. -/
def sendHP (ph : Fin 5) (d : Dev nD) {o : ℕ} (h : RowOk o 128) (k : Fin 8) : Pg F :=
  Prog.lift (.enqueueDma (gatH h k) (.remote (Dev.tc d) (gatH h k) (.dma (sendS (ph, k)))) (.dma (recvS (ph, k))) ((Memref.isWhole_whole _).wordExact_slice rfl _ (prH h k).wholeWords) ((Memref.isWhole_whole _).wordExact_slice rfl _ (prH h k).wholeWords) ⟨⟨rfl, Or.inl rfl⟩, trivial⟩)

/-- Wait for both ends of a transfer of 256 rows. -/
def waitBP (ph : Fin 5) {o : ℕ} (h : RowOk o 256) (k : Fin 8) : Pg F := do
  Prog.lift (.waitDma2 (sendS (ph, k)) (gatB h k) (gatB h k) ((Memref.isWhole_whole _).wordExact_slice rfl _ (prG h k).wholeWords) ((Memref.isWhole_whole _).wordExact_slice rfl _ (prG h k).wholeWords))
  Prog.lift (.waitDma2 (recvS (ph, k)) (gatB h k) (gatB h k) ((Memref.isWhole_whole _).wordExact_slice rfl _ (prG h k).wholeWords) ((Memref.isWhole_whole _).wordExact_slice rfl _ (prG h k).wholeWords))

/-- Wait for both ends of a transfer of 128 rows. -/
def waitHP (ph : Fin 5) {o : ℕ} (h : RowOk o 128) (k : Fin 8) : Pg F := do
  Prog.lift (.waitDma2 (sendS (ph, k)) (gatH h k) (gatH h k) ((Memref.isWhole_whole _).wordExact_slice rfl _ (prH h k).wholeWords) ((Memref.isWhole_whole _).wordExact_slice rfl _ (prH h k).wholeWords))
  Prog.lift (.waitDma2 (recvS (ph, k)) (gatH h k) (gatH h k) ((Memref.isWhole_whole _).wordExact_slice rfl _ (prH h k).wholeWords) ((Memref.isWhole_whole _).wordExact_slice rfl _ (prH h k).wholeWords))

/-- Wait for both ends of chunk `k`'s first transfer, add the two halves into the own rows. -/
def addP {o : ℕ} (h : RowOk o 256) (k : Fin 8) : Pg F := do
  Prog.lift (.waitDma2 (sendS (0, k)) (recvB k) (partB k) ((Memref.isWhole_whole _).wordExact_slice rfl _ (wwP k)) ((Memref.isWhole_whole _).wordExact_slice rfl _ (wwP k)))
  Prog.lift (.waitDma2 (recvS (0, k)) (partB k) (recvB k) ((Memref.isWhole_whole _).wordExact_slice rfl _ (wwP k)) ((Memref.isWhole_whole _).wordExact_slice rfl _ (wwP k)))
  let a : Vec F S256x128 .bf16 ← Prog.lift (.load (Memref.whole cc0_scratch0) (rP k).toLoadRect (View.loadsAt_vmem h_S256x128))
  let b : Vec F S256x128 .bf16 ← Prog.lift (.load (Memref.whole cc0_scratch1) (rP k).toLoadRect (View.loadsAt_vmem h_S256x128))
  let _ : Vec F S256x128 .bf16 ← Prog.lift (.load (Memref.whole cc0_scratch2) (rG h k).toLoadRect (View.loadsAt_vmem h_S256x128))
  Prog.lift (.store (Memref.whole cc0_scratch2) (rG h k) (k0_pay9 a b) Finset.univ (View.stores_vmem h_S256x128 ((Memref.isWhole_whole _).storeExact_slice rfl _ (prG h k)) (fun _ => rfl)) (.inl rfl))

/-- Rows `o … o+255` of the gathered buffer, widened, become those rows of the result. -/
def outP (a2 : Memref sig .tc .vmem S1024x1024 .f32) {o : ℕ} (h : RowOk o 256) : Pg F := do
  let v : Vec F S256x1024 .bf16 ← Prog.lift (.load (Memref.whole cc0_scratch2) (rR h).toLoadRect (View.loadsAt_vmem h_S256x1024))
  let _ : Vec F S256x1024 .f32 ← Prog.lift (.load a2 (rR h).toLoadRect (View.loadsAt_vmem h_S256x1024))
  Prog.lift (.store a2 (rR h) (k0_pay1 v) Finset.univ (View.stores_vmem_bits_univ h_S256x1024 rfl) (.inl rfl))

/-- The rows a device reads, stores and forwards, and its neighbours, with the bounds they keep. -/
structure Geo where
  dx : Dev nD
  dz : Dev nD
  dy : Dev nD
  own : ℕ
  yfw : ℕ
  zfw : ℕ
  rz : ℕ
  ry : ℕ
  rd : ℕ
  hown : RowOk own 256
  hyfw : RowOk yfw 128
  hzfw : RowOk zfw 128
  hrz : RowOk rz 256
  hry : RowOk ry 256
  hrd : RowOk rd 256

variable (g : Geo)

/-- Reduce chunk `k` and send the sum on along the two other axes. -/
def reduceP (k : Fin 8) : Pg F := do
  addP g.hown k
  sendBP 1 g.dz g.hown k
  sendBP 2 g.dy g.hown k

/-- Take chunk `k` from one axis and forward a half of it along the other, both ways. -/
def forwardP (k : Fin 8) : Pg F := do
  waitBP 1 g.hown k
  sendHP 4 g.dy g.hyfw k
  waitBP 2 g.hown k
  sendHP 3 g.dz g.hzfw k

/-- The last two waits of chunk `k`. -/
def lastP (k : Fin 8) : Pg F := do
  waitHP 3 g.hzfw k
  waitHP 4 g.hyfw k

/-- The body on a device of geometry `g`. -/
def mainP (a0 : Memref sig .tc .vmem S256x4096 .bf16) (a2 : Memref sig .tc .vmem S1024x1024 .f32) : Pg F := do
  copyP 0; copyP 1
  barP g.dx g.dz g.dy
  prodP a0 0; sendXP g.dx 0; sendXP g.dx 1; copyP 2
  prodP a0 1; sendXP g.dx 2; sendXP g.dx 3; copyP 3
  reduceP g 0; reduceP g 1
  prodP a0 2; sendXP g.dx 4; sendXP g.dx 5
  reduceP g 2; reduceP g 3
  forwardP g 0; forwardP g 1
  prodP a0 3; sendXP g.dx 6; sendXP g.dx 7
  reduceP g 4; reduceP g 5
  forwardP g 2; forwardP g 3
  reduceP g 6; reduceP g 7
  forwardP g 4; forwardP g 5; forwardP g 6; forwardP g 7
  outP a2 g.hown; outP a2 g.hrz; outP a2 g.hry
  lastP g 0; lastP g 1; lastP g 2; lastP g 3; lastP g 4; lastP g 5; lastP g 6; lastP g 7
  outP a2 g.hrd

theorem rowOk_of {o n : ℕ} (h : o + n ≤ 1024 ∧ 2 ∣ o) : RowOk o n := ⟨h.1, h.2⟩

/-- The geometry as the printed body computes it from the device's number. -/
def geoOf (d : Dev nD) : Geo where
  dx := ⟨k0_dev1 d, k0_dev1_lt d⟩
  dz := ⟨k0_dev2 d, k0_dev2_lt d⟩
  dy := ⟨k0_dev3 d, k0_dev3_lt d⟩
  own := k0_off1 d 0
  yfw := k0_off9 d 0
  zfw := k0_off10 d 0
  rz := k0_off34 d 0
  ry := k0_off35 d 0
  rd := k0_off36 d 0
  hown := rowOk_of ((by decide +kernel : ∀ d : Dev nD, k0_off1 d 0 + 256 ≤ 1024 ∧ 2 ∣ k0_off1 d 0) d)
  hyfw := rowOk_of ((by decide +kernel : ∀ d : Dev nD, k0_off9 d 0 + 128 ≤ 1024 ∧ 2 ∣ k0_off9 d 0) d)
  hzfw := rowOk_of ((by decide +kernel : ∀ d : Dev nD, k0_off10 d 0 + 128 ≤ 1024 ∧ 2 ∣ k0_off10 d 0) d)
  hrz := rowOk_of ((by decide +kernel : ∀ d : Dev nD, k0_off34 d 0 + 256 ≤ 1024 ∧ 2 ∣ k0_off34 d 0) d)
  hry := rowOk_of ((by decide +kernel : ∀ d : Dev nD, k0_off35 d 0 + 256 ≤ 1024 ∧ 2 ∣ k0_off35 d 0) d)
  hrd := rowOk_of ((by decide +kernel : ∀ d : Dev nD, k0_off36 d 0 + 256 ≤ 1024 ∧ 2 ∣ k0_off36 d 0) d)

/-- The printed body: read the device's number, then the steps. -/
def bodyP (a0 : Memref sig .tc .vmem S256x4096 .bf16) (a2 : Memref sig .tc .vmem S1024x1024 .f32) : Pg F := do
  let d : Dev nD ← Prog.lift .deviceId
  mainP (geoOf d) a0 a2

end Cert.KernelIdeal.Steps

end
-- ==== Proof.Proto.lean ====
/- The protocol. For each semaphore: who waits on it, who signals or copies onto it, how much, and what
   each landing hands over, with its contents.

   * barrier of device `c`: its three neighbours signal it once each; the neighbour along an axis hands
     over, for every transfer `c` sends along that axis, the place on the neighbour it lands in.
   * copy semaphore of a slot: `c`'s own copies of weight rows, two rounds; each hands over the slot
     filled and the rows read.
   * send semaphore of a transfer: the transfer itself; hands back what it read.
   * receive semaphore of a transfer: the neighbour's transfer; hands over the place filled. -/
module

public import proofs.«01_k».proof.Proof.Body
public import Idealize.ShloMosaic.Lib.Rounds
public import Idealize.ShloMosaic.Lib.Pipeline.Regions
public import Idealize.ShloMosaic.Lib.Pipeline.Kit
public import Idealize.ShloMosaic.Lib.Tactic
public import Idealize.ShloMosaic.PureOps

@[expose] public section

set_option backward.proofsInPublic true

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps

variable {F : FTy → Type} [FloatOps F]

/-! ## The resource algebra -/

abbrev UD : Type := URounds (GSem nD τ sig) (Fin 3)
abbrev UU : Type := UR sig nD τ × UD

local notation "𝕄" => MT nD τ sig Unit (Elt F) ℕ UU ℕ

abbrev EP : Emb (UR sig nD τ) (MT nD τ sig Unit (Elt F) ℕ UU ℕ) := embL
abbrev ER : Emb UD (MT nD τ sig Unit (Elt F) ℕ UU ℕ) := embR
abbrev 𝒱₀ : Variants := Variants.none

/-! ## The mesh -/

abbrev xdev (c : Dev nD) : Dev nD := (geoOf c).dx
abbrev zdev (c : Dev nD) : Dev nD := (geoOf c).dz
abbrev ydev (c : Dev nD) : Dev nD := (geoOf c).dy

theorem xdev_xdev : ∀ c : Dev nD, xdev (xdev c) = c := by decide +kernel
theorem zdev_zdev : ∀ c : Dev nD, zdev (zdev c) = c := by decide +kernel
theorem ydev_ydev : ∀ c : Dev nD, ydev (ydev c) = c := by decide +kernel

/-- The device with first coordinate that of `c`, and row block `q`. -/
def sib (c : Dev nD) (q : Fin 4) : Dev nD := ⟨4 * (c.val / 4) + q.val, by
  have h : c.val < 8 := c.isLt
  have := q.isLt
  show 4 * (c.val / 4) + q.val < 8
  omega⟩
theorem sib_zdev : ∀ (c : Dev nD) (q : Fin 4), sib (zdev c) q = sib c q := by decide +kernel
theorem sib_ydev : ∀ (c : Dev nD) (q : Fin 4), sib (ydev c) q = sib c q := by decide +kernel
/-- The row block a device owns. -/
def blk (c : Dev nD) : Fin 4 := ⟨c.val % 4, Nat.mod_lt _ (by decide)⟩
theorem sib_blk : ∀ c : Dev nD, sib c (blk c) = c := by decide +kernel
theorem own_blk : ∀ c : Dev nD, (geoOf c).own = 256 * (blk c).val := by decide +kernel

/-! ## What the buffers hold -/

section Contents

variable (X : (c : Dev nD) → Vec F S256x4096 .bf16) (Wt : (c : Dev nD) → Vec F S1024x4096 .f32)

/-- Weight rows `256p … 256p+255` of device `c`. -/
def wrow (c : Dev nD) (p : Fin 4) : Vec F S256x4096 .f32 := (wB p).view.read (Elt F) (Wt c)
/-- The product of `c`'s activations with those rows. -/
def prodV (c : Dev nD) (p : Fin 4) : Vec F S256x256 .bf16 :=
  truncf .bf16 (matmul dot_S256x4096_S256x4096_S256x256_1_1_0_0_n_n none (X c)
    (truncf .bf16 (wrow Wt c p) bitsLt_bf16_f32 : FVec F S256x4096 .bf16) (constant S256x256 .f32 0x00000000#32)) bitsLt_bf16_f32
/-- The four products side by side. -/
def partF (c : Dev nD) : Vec F S256x1024 .bf16 := fun i =>
  prodV X Wt c ⟨(i 1).val / 256, by have h : (i 1).val < 1024 := (i 1).isLt; omega⟩
    (Shape.pair (d := ![256, 256]) (i 0) ⟨(i 1).val % 256, Nat.mod_lt _ (by decide)⟩)
/-- The gathered sum as device `c` holds it: row block `q` is the sum `sib c q` makes. -/
def gatF (c : Dev nD) : Vec F S1024x1024 .bf16 := fun i =>
  (fun d : Dev nD => addf (partF X Wt d) (partF X Wt (xdev d)))
    (sib c ⟨(i 0).val / 256, by have h : (i 0).val < 1024 := (i 0).isLt; omega⟩)
    (Shape.pair (d := ![256, 1024]) ⟨(i 0).val % 256, Nat.mod_lt _ (by decide)⟩ (i 1))
/-- The result: the gathered sum widened. -/
def outF (c : Dev nD) : Vec F S1024x1024 .f32 := extf .f32 (gatF X Wt c) bitsLt_bf16_f32

theorem gatF_zdev (c : Dev nD) : gatF X Wt (zdev c) = gatF X Wt c := by
  funext i; unfold gatF; rw [sib_zdev]
theorem gatF_ydev (c : Dev nD) : gatF X Wt (ydev c) = gatF X Wt c := by
  funext i; unfold gatF; rw [sib_ydev]

end Contents

/-! ## Cells -/

/-- The transfers: phase and chunk. -/
abbrev PC : Type := Fin 5 × Fin 8
/-- The axis a phase's transfers go along. -/
abbrev dir (ph : Fin 5) : Fin 3 := match ph with | 0 => 0 | 1 => 1 | 2 => 2 | 3 => 1 | 4 => 2
/-- The neighbour along an axis. -/
abbrev nbr (a : Fin 3) (c : Dev nD) : Dev nD := match a with | 0 => xdev c | 1 => zdev c | 2 => ydev c
theorem nbr_nbr (a : Fin 3) (c : Dev nD) : nbr a (nbr a c) = c := by
  fin_cases a
  · exact xdev_xdev c
  · exact zdev_zdev c
  · exact ydev_ydev c
/-- Where a transfer goes. -/
abbrev peer (e : PC) (c : Dev nD) : Dev nD := nbr (dir e.1) c
theorem peer_peer (e : PC) (c : Dev nD) : peer e (peer e c) = c := nbr_nbr _ _

abbrev barCell (c : Dev nD) : GSem nD τ sig := ((c : Thread nD τ), .reg barS)
abbrev sendCell (c : Dev nD) (e : PC) : GSem nD τ sig := ((c : Thread nD τ), .dma (sendS e))
abbrev recvCell (c : Dev nD) (e : PC) : GSem nD τ sig := ((c : Thread nD τ), .dma (recvS e))
abbrev copyCell (c : Dev nD) (s : Fin 2) : GSem nD τ sig := ((c : Thread nD τ), .dma (copyS s))

inductive Role where
  | bar | send (e : PC) | recv (e : PC) | copy (s : Fin 2) | other
  deriving DecidableEq

/-- Transfer number `n` of forty. -/
def pcOf (n : ℕ) : PC := (⟨n / 8 % 5, Nat.mod_lt _ (by decide)⟩, ⟨n % 8, Nat.mod_lt _ (by decide)⟩)
/-- What a semaphore is for. -/
def kind : SemLoc sig → Role
  | .reg s => if s = barS then .bar else .other
  | .dma n => if n.val < 2 then .other else if n.val < 4 then .copy ⟨(n.val - 2) % 2, Nat.mod_lt _ (by decide)⟩
      else if n.val < 44 then .send (pcOf (n.val - 4)) else .recv (pcOf (n.val - 44))

theorem kind_bar : kind (.reg barS) = .bar := by decide
theorem kind_send : ∀ e : PC, kind (.dma (sendS e)) = .send e := by decide +kernel
theorem kind_recv : ∀ e : PC, kind (.dma (recvS e)) = .recv e := by decide +kernel
theorem kind_copy : ∀ s : Fin 2, kind (.dma (copyS s)) = .copy s := by decide +kernel

/-! ## Amounts -/

/-- What a transfer of 256 by 128 elements signals, of 128 by 128, and of a block of weight rows. -/
def N256 : ℕ := sig.dmaCredit .tc (Kind.tc.table .vmem) (partB 0).view.buf S256x128 .bf16
def N128 : ℕ := sig.dmaCredit .tc (Kind.tc.table .vmem) (partB 0).view.buf S128x128 .bf16
def NW : ℕ := sig.dmaCredit .tc (Kind.tc.table .vmem) (partB 0).view.buf S256x4096 .f32
theorem cr_partB (k : Fin 8) : (partB k).view.dmaCredit = N256 := rfl
theorem cr_recvB (k : Fin 8) : (recvB k).view.dmaCredit = N256 := rfl
theorem cr_gatB {o : ℕ} (h : RowOk o 256) (k : Fin 8) : (gatB h k).view.dmaCredit = N256 := rfl
theorem cr_gatH {o : ℕ} (h : RowOk o 128) (k : Fin 8) : (gatH h k).view.dmaCredit = N128 := rfl
theorem cr_wbB (s : Fin 2) : (wbB s).view.dmaCredit = NW := rfl
def amtE (e : PC) : ℕ := match e.1 with | 0 => N256 | 1 => N256 | 2 => N256 | 3 => N128 | 4 => N128
theorem N256_pos : 0 < N256 := sig.dmaCredit_pos _ _ _ _ _ (by decide)
theorem N128_pos : 0 < N128 := sig.dmaCredit_pos _ _ _ _ _ (by decide)
theorem NW_pos : 0 < NW := sig.dmaCredit_pos _ _ _ _ _ (by decide)
theorem amtE_pos (e : PC) : 0 < amtE e := by
  obtain ⟨ph, k⟩ := e
  fin_cases ph
  · exact N256_pos
  · exact N256_pos
  · exact N256_pos
  · exact N128_pos
  · exact N128_pos

/-! ## What is handed over -/

/-- A memref's elements on device `c` at contents `f`. -/
abbrev mpt {sp : Space} {s : Shape} {e : EltTy} (v : Memref sig .tc sp s e) (c : Dev nD) (q : PosShare TreeShare)
    (f : Buf (Elt F) (v.view.loc (c : Thread nD τ))) : sProp 𝕄 :=
  v.view.loc (c : Thread nD τ) ↦[v.view.set]{q} f
abbrev mptAny {sp : Space} {s : Shape} {e : EltTy} (v : Memref sig .tc sp s e) (c : Dev nD) : sProp 𝕄 :=
  iprop(∃ f : Buf (Elt F) (v.view.loc (c : Thread nD τ)), mpt v c fullShare f)

theorem mptAny_storable {sp : Space} {s : Shape} {e : EltTy} (v : Memref sig .tc sp s e) (c : Dev nD) :
    BI.Storable (upEmb : UEmb _ 𝕄) (mptAny (F := F) v c) := inferInstance
theorem holds_storable {sp sp' : Space} {s s' : Shape} {e e' : EltTy} (v : Memref sig .tc sp s e) (c : Dev nD)
    (P : Buf (Elt F) (v.view.loc (c : Thread nD τ)) → Prop) (v' : Memref sig .tc sp' s' e')
    (g : Buf (Elt F) (v'.view.loc (c : Thread nD τ))) :
    BI.Storable (upEmb : UEmb _ 𝕄) iprop((∃ f : Buf (Elt F) (v.view.loc (c : Thread nD τ)), ⌜P f⌝ ∗ mpt v c fullShare f)
      ∗ mpt v' c fullShare g) := inferInstance

abbrev h1 : PosShare TreeShare := fullShare.left
abbrev h2 : PosShare TreeShare := fullShare.right

section Pay

variable (X : (c : Dev nD) → Vec F S256x4096 .bf16) (Wt : (c : Dev nD) → Vec F S1024x4096 .f32)

/-- What transfer `e` of device `c` reads. -/
def srcPt (c : Dev nD) (e : PC) : sProp 𝕄 := match e.1 with
  | 0 => mpt (partB e.2) c fullShare (partF X Wt c)
  | 1 => mpt (gatB (geoOf c).hown e.2) c h1 (gatF X Wt c)
  | 2 => mpt (gatB (geoOf c).hown e.2) c h2 (gatF X Wt c)
  | 3 => mpt (gatH (geoOf c).hzfw e.2) c h2 (gatF X Wt c)
  | 4 => mpt (gatH (geoOf c).hyfw e.2) c h2 (gatF X Wt c)
/-- Where transfer `e` of device `s` lands on device `c`, filled. -/
def landPt (s c : Dev nD) (e : PC) : sProp 𝕄 := match e.1 with
  | 0 => mpt (recvB e.2) c fullShare (partF X Wt s)
  | 1 => mpt (gatB (geoOf s).hown e.2) c fullShare (gatF X Wt c)
  | 2 => mpt (gatB (geoOf s).hown e.2) c fullShare (gatF X Wt c)
  | 3 => mpt (gatH (geoOf s).hzfw e.2) c fullShare (gatF X Wt c)
  | 4 => mpt (gatH (geoOf s).hyfw e.2) c fullShare (gatF X Wt c)
/-- The same place, not yet filled. -/
def landAny (s c : Dev nD) (e : PC) : sProp 𝕄 := match e.1 with
  | 0 => mptAny (recvB e.2) c
  | 1 => mptAny (gatB (geoOf s).hown e.2) c
  | 2 => mptAny (gatB (geoOf s).hown e.2) c
  | 3 => mptAny (gatH (geoOf s).hzfw e.2) c
  | 4 => mptAny (gatH (geoOf s).hyfw e.2) c
/-- The transfers along an axis. -/
abbrev along (a : Fin 3) : Finset PC := Finset.univ.filter fun e => dir e.1 = a
/-- What the neighbour along axis `a` hands over at the barrier of `c`. -/
def barPay (c : Dev nD) (a : Fin 3) : sProp 𝕄 :=
  bigSep (along a) fun e => iprop(landAny c (nbr a c) e ∗ reached ER (recvCell (nbr a c) e) 0)
/-- The product a copy on slot `s` serves in round `r`. -/
abbrev copyOf (s : Fin 2) (r : ℕ) : Fin 4 := ⟨(s.val + 2 * r) % 4, Nat.mod_lt _ (by decide)⟩
/-- What a copy of weight rows hands over: the slot holding them, and the rows. -/
def copyPay (c : Dev nD) (s : Fin 2) (p : Fin 4) : sProp 𝕄 :=
  iprop((∃ f : Buf (Elt F) ((wbB s).view.loc (c : Thread nD τ)), ⌜(wbB s).view.read (Elt F) f = wrow Wt c p⌝ ∗ mpt (wbB s) c fullShare f)
    ∗ mpt (wB p) c fullShare (Wt c))

def dutiesOf (k : Role) (r : ℕ) : Finset (Fin 3) := match k with
  | .bar => if r = 0 then Finset.univ else ∅
  | .send _ => if r = 0 then {0} else ∅
  | .recv _ => if r = 0 then {0} else ∅
  | .copy _ => if r < 2 then {0} else ∅
  | .other => ∅
def amountOf (k : Role) : ℕ := match k with
  | .bar => 1
  | .send e => amtE e
  | .recv e => amtE e
  | .copy _ => NW
  | .other => 1
def payOf (c : Dev nD) (k : Role) (r : ℕ) (d : Fin 3) : sProp 𝕄 := match k with
  | .bar => barPay c d
  | .send e => srcPt X Wt c e
  | .recv e => landPt X Wt (peer e c) c e
  | .copy s => copyPay Wt c s (copyOf s r)
  | .other => iprop(emp)

/-- The schedule. -/
def Rd : Rounds.Schedule (GSem nD τ sig) (Fin 3) 𝕄 where
  duties g r := if g.1.2 = .tc then dutiesOf (kind g.2) r else ∅
  unitless _ := False
  amount g _ _ := amountOf (kind g.2)
  payload g r d := payOf X Wt g.1.1 (kind g.2) r d
  amount_pos g _ _ _ := by
    show 0 < amountOf (kind g.2)
    unfold amountOf
    split
    · exact Nat.one_pos
    · exact amtE_pos _
    · exact amtE_pos _
    · exact NW_pos
    · exact Nat.one_pos

instance srcPt_storable (c : Dev nD) (e : PC) : BI.Storable (upEmb : UEmb _ 𝕄) (srcPt X Wt c e) := by
  unfold srcPt; split <;> infer_instance
instance landPt_storable (s c : Dev nD) (e : PC) : BI.Storable (upEmb : UEmb _ 𝕄) (landPt X Wt s c e) := by
  unfold landPt; split <;> infer_instance
instance landAny_storable (s c : Dev nD) (e : PC) : BI.Storable (upEmb : UEmb _ 𝕄) (landAny (F := F) s c e) := by
  unfold landAny; split <;> exact mptAny_storable _ _
instance barPay_storable (c : Dev nD) (a : Fin 3) : BI.Storable (upEmb : UEmb _ 𝕄) (barPay (F := F) c a) := by
  unfold barPay; infer_instance
instance copyPay_storable (c : Dev nD) (s : Fin 2) (p : Fin 4) : BI.Storable (upEmb : UEmb _ 𝕄) (copyPay Wt c s p) := by
  unfold copyPay
  exact holds_storable (wbB s) c (fun f => (wbB s).view.read (Elt F) f = wrow Wt c p) (wB p) (Wt c)
instance payload_storable (g : GSem nD τ sig) (r : ℕ) (d : Fin 3) :
    BI.Storable (upEmb : UEmb _ 𝕄) ((Rd X Wt).payload g r d) := by
  show BI.Storable upEmb (payOf X Wt g.1.1 (kind g.2) r d)
  unfold payOf
  split <;> infer_instance

/-! ### The schedule at each cell -/

variable (c : Dev nD)

theorem duties_bar : (Rd X Wt).duties (barCell c) 0 = Finset.univ := by
  show dutiesOf (kind (.reg barS)) 0 = _; rw [kind_bar]; rfl
theorem duties_send (e : PC) : (Rd X Wt).duties (sendCell c e) 0 = {0} := by
  show dutiesOf (kind (.dma (sendS e))) 0 = _; rw [kind_send]; rfl
theorem duties_recv (e : PC) : (Rd X Wt).duties (recvCell c e) 0 = {0} := by
  show dutiesOf (kind (.dma (recvS e))) 0 = _; rw [kind_recv]; rfl
theorem duties_copy (s : Fin 2) (r : ℕ) (hr : r < 2) : (Rd X Wt).duties (copyCell c s) r = {0} := by
  show dutiesOf (kind (.dma (copyS s))) r = _; rw [kind_copy]; exact if_pos hr

theorem later_bar (r : ℕ) (hr : 1 ≤ r) : (Rd X Wt).duties (barCell c) r = ∅ := by
  show dutiesOf (kind (.reg barS)) r = _; rw [kind_bar]; exact if_neg (by omega)
theorem later_send (e : PC) (r : ℕ) (hr : 1 ≤ r) : (Rd X Wt).duties (sendCell c e) r = ∅ := by
  show dutiesOf (kind (.dma (sendS e))) r = _; rw [kind_send]; exact if_neg (by omega)
theorem later_recv (e : PC) (r : ℕ) (hr : 1 ≤ r) : (Rd X Wt).duties (recvCell c e) r = ∅ := by
  show dutiesOf (kind (.dma (recvS e))) r = _; rw [kind_recv]; exact if_neg (by omega)
theorem later_copy (s : Fin 2) (r : ℕ) (hr : 2 ≤ r) : (Rd X Wt).duties (copyCell c s) r = ∅ := by
  show dutiesOf (kind (.dma (copyS s))) r = _; rw [kind_copy]; exact if_neg (by omega)

theorem amount_bar (r : ℕ) (d : Fin 3) : (Rd X Wt).amount (barCell c) r d = 1 := by
  show amountOf (kind (.reg barS)) = _; rw [kind_bar]; rfl
theorem amount_send (e : PC) (r : ℕ) (d : Fin 3) : (Rd X Wt).amount (sendCell c e) r d = amtE e := by
  show amountOf (kind (.dma (sendS e))) = _; rw [kind_send]; rfl
theorem amount_recv (e : PC) (r : ℕ) (d : Fin 3) : (Rd X Wt).amount (recvCell c e) r d = amtE e := by
  show amountOf (kind (.dma (recvS e))) = _; rw [kind_recv]; rfl
theorem amount_copy (s : Fin 2) (r : ℕ) (d : Fin 3) : (Rd X Wt).amount (copyCell c s) r d = NW := by
  show amountOf (kind (.dma (copyS s))) = _; rw [kind_copy]; rfl

theorem payload_bar (r : ℕ) (d : Fin 3) : (Rd X Wt).payload (barCell c) r d = barPay c d := by
  show payOf X Wt c (kind (.reg barS)) r d = _; rw [kind_bar]; rfl
theorem payload_send (e : PC) (r : ℕ) (d : Fin 3) : (Rd X Wt).payload (sendCell c e) r d = srcPt X Wt c e := by
  show payOf X Wt c (kind (.dma (sendS e))) r d = _; rw [kind_send]; rfl
theorem payload_recv (e : PC) (r : ℕ) (d : Fin 3) : (Rd X Wt).payload (recvCell c e) r d = landPt X Wt (peer e c) c e := by
  show payOf X Wt c (kind (.dma (recvS e))) r d = _; rw [kind_recv]; rfl
theorem payload_copy (s : Fin 2) (r : ℕ) (d : Fin 3) : (Rd X Wt).payload (copyCell c s) r d = copyPay Wt c s (copyOf s r) := by
  show payOf X Wt c (kind (.dma (copyS s))) r d = _; rw [kind_copy]; rfl

theorem expect_bar : (Rd X Wt).expect (barCell c) 0 = 3 := by
  unfold Schedule.expect Schedule.amountOf
  rw [duties_bar, Finset.sum_congr rfl (fun d _ => amount_bar X Wt c 0 d)]; rfl
theorem expect_send (e : PC) : (Rd X Wt).expect (sendCell c e) 0 = amtE e := by
  unfold Schedule.expect Schedule.amountOf; rw [duties_send, Finset.sum_singleton, amount_send]
theorem expect_recv (e : PC) : (Rd X Wt).expect (recvCell c e) 0 = amtE e := by
  unfold Schedule.expect Schedule.amountOf; rw [duties_recv, Finset.sum_singleton, amount_recv]
theorem expect_copy (s : Fin 2) (r : ℕ) (hr : r < 2) : (Rd X Wt).expect (copyCell c s) r = NW := by
  unfold Schedule.expect Schedule.amountOf; rw [duties_copy X Wt c s r hr, Finset.sum_singleton, amount_copy]

theorem rest_bar : bigSep ((Rd X Wt).duties (barCell c) 0 \ ∅) (fun d => (Rd X Wt).payload (barCell c) 0 d)
    = bigSep Finset.univ fun d => barPay (F := F) c d := by
  rw [Finset.sdiff_empty, duties_bar]
  exact congrArg (bigSep Finset.univ) (funext fun d => payload_bar X Wt c 0 d)
theorem rest_send (e : PC) : bigSep ((Rd X Wt).duties (sendCell c e) 0 \ ∅) (fun d => (Rd X Wt).payload (sendCell c e) 0 d)
    = srcPt X Wt c e := by
  rw [Finset.sdiff_empty, duties_send, bigSep_singleton, payload_send]
theorem rest_recv (e : PC) : bigSep ((Rd X Wt).duties (recvCell c e) 0 \ ∅) (fun d => (Rd X Wt).payload (recvCell c e) 0 d)
    = landPt X Wt (peer e c) c e := by
  rw [Finset.sdiff_empty, duties_recv, bigSep_singleton, payload_recv]
theorem rest_copy (s : Fin 2) (r : ℕ) (hr : r < 2) :
    bigSep ((Rd X Wt).duties (copyCell c s) r \ ∅) (fun d => (Rd X Wt).payload (copyCell c s) r d) = copyPay Wt c s (copyOf s r) := by
  rw [Finset.sdiff_empty, duties_copy X Wt c s r hr, bigSep_singleton, payload_copy]

end Pay

/-! ## What a device owes, and the order of the cells -/

/-- The sends in program order. -/
def ords : List PC :=
  [(0, 0), (0, 1), (0, 2), (0, 3), (1, 0), (2, 0), (1, 1), (2, 1), (0, 4), (0, 5), (1, 2), (2, 2), (1, 3), (2, 3),
   (4, 0), (3, 0), (4, 1), (3, 1), (0, 6), (0, 7), (1, 4), (2, 4), (1, 5), (2, 5), (4, 2), (3, 2), (4, 3), (3, 3),
   (1, 6), (2, 6), (1, 7), (2, 7), (4, 4), (3, 4), (4, 5), (3, 5), (4, 6), (3, 6), (4, 7), (3, 7)]
/-- A transfer's place in that order. -/
def ord (e : PC) : ℕ := ords.idxOf e

/-- The landings device `c` still owes, for the sends of a list. -/
def owedL (c : Dev nD) : List PC → CellTallies nD τ sig Unit
  | [] => 0
  | e :: l => owedL c l + tallyAt (recvCell (peer e c) e) () (amtE e)

def L (g : GSem nD τ sig) : Finset Unit := if g.1.2 = .tc then {()} else ∅
def lvK : Role → ℕ
  | .bar => 1
  | .recv e => 2 + ord e
  | _ => 0
/-- The barrier's cell below every landing's, the landings' in the order of the sends. -/
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl

theorem owedL_pos (c : Dev nD) (l : List PC) (g : GSem nD τ sig) (u : Unit) (h : 0 < owedL c l g u) :
    ∃ e ∈ l, g = recvCell (peer e c) e := by
  induction l with
  | nil => exact absurd h (Nat.lt_irrefl 0)
  | cons e l ih =>
    have h' : 0 < owedL c l g u + tallyAt (recvCell (peer e c) e) () (amtE e) g u := h
    rw [tallyAt_apply] at h'
    by_cases hg : g = recvCell (peer e c) e ∧ u = ()
    · exact ⟨e, List.mem_cons_self, hg.1⟩
    · rw [if_neg hg, Nat.add_zero] at h'
      obtain ⟨e', he', h''⟩ := ih h'
      exact ⟨e', List.mem_cons_of_mem _ he', h''⟩

/-- A wait on a cell below every landing still owed is allowed. -/
theorem mayWait (c : Dev nD) (sm : SemLoc sig) (l : List PC) (n : ℕ) (hn : lvK (kind sm) ≤ n)
    (h : ∀ e ∈ l, n < 2 + ord e) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by
      obtain ⟨e, _, rfl⟩ := owedL_pos c l g u hg
      rw [L_tc]; exact Finset.mem_singleton_self _)
    (fun p hp => by rw [Finset.mem_singleton.mp hp]; exact hn)
    (fun g u hg => by
      obtain ⟨e, he, rfl⟩ := owedL_pos c l g u hg
      show n < lvK (kind (.dma (recvS e)))
      rw [kind_recv]
      exact h e he)

end Cert.KernelIdeal.Proto

end
-- ==== Proof.Pieces.lean ====
/- The pieces the buffers are cut into, and the contents each step leaves in its piece. -/
module

public import proofs.«01_k».proof.Proof.Proto
public import Idealize.ShloMosaic.Lib.Pipeline.Value

@[expose] public section

set_option backward.proofsInPublic true

noncomputable section

namespace Cert.KernelIdeal.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps Cert.KernelIdeal.Proto

variable {F : FTy → Type} [FloatOps F]

local notation "𝕄" => MT nD τ sig Unit (Elt F) ℕ UU ℕ

/-! ## Membership -/

theorem mem_unit2 {s : Shape} {off size : Fin s.rank → ℕ} {inb} {i : s.Idx} :
    i ∈ (Rect.unit off size inb).set ↔ ∀ a, off a ≤ (i a).val ∧ (i a).val < off a + size a :=
  Rect.mem_set_unit

theorem set_partB (k : Fin 8) : (partB k).view.set = (rP k).set := View.set_slice_whole _ _
theorem set_recvB (k : Fin 8) : (recvB k).view.set = (rP k).set := View.set_slice_whole _ _
theorem set_gatB {o : ℕ} (h : RowOk o 256) (k : Fin 8) : (gatB h k).view.set = (rG h k).set := View.set_slice_whole _ _
theorem set_gatH {o : ℕ} (h : RowOk o 128) (k : Fin 8) : (gatH h k).view.set = (rH h k).set := View.set_slice_whole _ _
theorem set_wB (p : Fin 4) : (wB p).view.set = (Rect.unit (s := S1024x4096) ![256 * p.val, 0] S256x4096.size (inbW p)).set := View.set_slice_whole _ _
theorem set_wbB (s : Fin 2) : (wbB s).view.set = (rS s).set := (View.set_reshape _ _).trans (View.set_slice_whole _ _)

theorem mem_rP (k : Fin 8) (i : S256x1024.Idx) : i ∈ (rP k).set ↔ 128 * k.val ≤ (i 1).val ∧ (i 1).val < 128 * k.val + 128 := by
  rw [mem_unit2]
  have h0 : (i 0).val < 256 := (i 0).isLt
  exact ⟨fun h => h 1, fun h a => by
    fin_cases a
    · exact ⟨Nat.zero_le _, by show (i 0).val < 0 + 256; omega⟩
    · exact h⟩
theorem mem_rQ (p : Fin 4) (i : S256x1024.Idx) : i ∈ (rQ p).set ↔ 256 * p.val ≤ (i 1).val ∧ (i 1).val < 256 * p.val + 256 := by
  rw [mem_unit2]
  have h0 : (i 0).val < 256 := (i 0).isLt
  exact ⟨fun h => h 1, fun h a => by
    fin_cases a
    · exact ⟨Nat.zero_le _, by show (i 0).val < 0 + 256; omega⟩
    · exact h⟩
theorem mem_rG {o : ℕ} (h : RowOk o 256) (k : Fin 8) (i : S1024x1024.Idx) :
    i ∈ (rG h k).set ↔ (o ≤ (i 0).val ∧ (i 0).val < o + 256) ∧ 128 * k.val ≤ (i 1).val ∧ (i 1).val < 128 * k.val + 128 := by
  rw [mem_unit2]
  exact ⟨fun h => ⟨h 0, h 1⟩, fun h a => by
    fin_cases a
    · exact h.1
    · exact h.2⟩
theorem mem_rH {o : ℕ} (h : RowOk o 128) (k : Fin 8) (i : S1024x1024.Idx) :
    i ∈ (rH h k).set ↔ (o ≤ (i 0).val ∧ (i 0).val < o + 128) ∧ 128 * k.val ≤ (i 1).val ∧ (i 1).val < 128 * k.val + 128 := by
  rw [mem_unit2]
  exact ⟨fun h => ⟨h 0, h 1⟩, fun h a => by
    fin_cases a
    · exact h.1
    · exact h.2⟩
theorem mem_rR {o : ℕ} (h : RowOk o 256) (i : S1024x1024.Idx) : i ∈ (rR h).set ↔ o ≤ (i 0).val ∧ (i 0).val < o + 256 := by
  rw [mem_unit2]
  have h1 : (i 1).val < 1024 := (i 1).isLt
  exact ⟨fun h => h 0, fun h a => by
    fin_cases a
    · exact h
    · exact ⟨Nat.zero_le _, by show (i 1).val < 0 + 1024; omega⟩⟩
theorem mem_rW (p : Fin 4) (i : S1024x4096.Idx) :
    i ∈ (Rect.unit (s := S1024x4096) ![256 * p.val, 0] S256x4096.size (inbW p)).set ↔ 256 * p.val ≤ (i 0).val ∧ (i 0).val < 256 * p.val + 256 := by
  rw [mem_unit2]
  have h1 : (i 1).val < 4096 := (i 1).isLt
  exact ⟨fun h => h 0, fun h a => by
    fin_cases a
    · exact h
    · exact ⟨Nat.zero_le _, by show (i 1).val < 0 + 4096; omega⟩⟩
theorem mem_rS (s : Fin 2) (i : S2x256x4096.Idx) : i ∈ (rS s).set ↔ (i 0).val = s.val := by
  rw [mem_unit2]
  have h1 : (i 1).val < 256 := (i 1).isLt
  have h2 : (i 2).val < 4096 := (i 2).isLt
  refine ⟨fun h => ?_, fun h a => ?_⟩
  · have h := h 0
    change s.val ≤ (i 0).val ∧ (i 0).val < s.val + 1 at h
    omega
  · fin_cases a
    · show s.val ≤ (i 0).val ∧ (i 0).val < s.val + 1
      omega
    · exact ⟨Nat.zero_le _, by show (i 1).val < 0 + 256; omega⟩
    · exact ⟨Nat.zero_le _, by show (i 2).val < 0 + 4096; omega⟩

/-! ## Geometry -/

theorem rz_eq : ∀ c : Dev nD, (geoOf (zdev c)).own = (geoOf c).rz := by decide +kernel
theorem ry_eq : ∀ c : Dev nD, (geoOf (ydev c)).own = (geoOf c).ry := by decide +kernel
theorem zfw_zdev : ∀ c : Dev nD, (geoOf (zdev c)).zfw = (geoOf c).rd := by decide +kernel
theorem yfw_ydev : ∀ c : Dev nD, (geoOf (ydev c)).yfw = (geoOf c).rd + 128 := by decide +kernel
theorem zfw_eq : ∀ c : Dev nD, (geoOf c).zfw = (geoOf c).ry := by decide +kernel
theorem yfw_eq : ∀ c : Dev nD, (geoOf c).yfw = (geoOf c).rz + 128 := by decide +kernel
/-- The four row blocks are apart, and are multiples of 256. -/
theorem rows_apart : ∀ c : Dev nD,
    (geoOf c).own % 256 = 0 ∧ (geoOf c).rz % 256 = 0 ∧ (geoOf c).ry % 256 = 0 ∧ (geoOf c).rd % 256 = 0 ∧
    (geoOf c).own ≠ (geoOf c).rz ∧ (geoOf c).own ≠ (geoOf c).ry ∧ (geoOf c).own ≠ (geoOf c).rd ∧
    (geoOf c).rz ≠ (geoOf c).ry ∧ (geoOf c).rz ≠ (geoOf c).rd ∧ (geoOf c).ry ≠ (geoOf c).rd := by decide +kernel
theorem rows_cover : ∀ (c : Dev nD) (q : Fin 4), 256 * q.val = (geoOf c).own ∨ 256 * q.val = (geoOf c).rz ∨ 256 * q.val = (geoOf c).ry ∨ 256 * q.val = (geoOf c).rd := by
  decide +kernel

/-! ## Contents -/

section Contents

variable (X : (c : Dev nD) → Vec F S256x4096 .bf16) (Wt : (c : Dev nD) → Vec F S1024x4096 .f32) (c : Dev nD)

theorem partF_at (i : S256x1024.Idx) (p : Fin 4) (x : S256x256.Idx) (h0 : (i 0).val = (x 0).val) (h1 : (i 1).val = 256 * p.val + (x 1).val) :
    partF X Wt c i = prodV X Wt c p x := by
  have hx : (x 1).val < 256 := (x 1).isLt
  have hp : (⟨(i 1).val / 256, by have h : (i 1).val < 1024 := (i 1).isLt; omega⟩ : Fin 4) = p := Fin.ext (by show (i 1).val / 256 = p.val; omega)
  have hi : (Shape.pair (d := ![256, 256]) (i 0) ⟨(i 1).val % 256, Nat.mod_lt _ (by decide)⟩ : S256x256.Idx) = x := by
    funext a
    fin_cases a
    · exact Fin.ext h0
    · exact Fin.ext (by show (i 1).val % 256 = (x 1).val; omega)
  show prodV X Wt c _ _ = _
  rw [hp, hi]

theorem gatF_at (i : S1024x1024.Idx) (q : Fin 4) (x : S256x1024.Idx) (h0 : (i 0).val = 256 * q.val + (x 0).val) (h1 : (i 1).val = (x 1).val) :
    gatF X Wt c i = addf (partF X Wt (sib c q)) (partF X Wt (xdev (sib c q))) x := by
  have hx : (x 0).val < 256 := (x 0).isLt
  have hq : (⟨(i 0).val / 256, by have h : (i 0).val < 1024 := (i 0).isLt; omega⟩ : Fin 4) = q := Fin.ext (by show (i 0).val / 256 = q.val; omega)
  have hi : (Shape.pair (d := ![256, 1024]) ⟨(i 0).val % 256, Nat.mod_lt _ (by decide)⟩ (i 1) : S256x1024.Idx) = x := by
    funext a
    fin_cases a
    · exact Fin.ext (by show (i 0).val % 256 = (x 0).val; omega)
    · exact Fin.ext h1
  show addf (partF X Wt (sib c _)) (partF X Wt (xdev (sib c _))) _ = _
  rw [hq, hi]

/-- An unmasked write through a view agrees on the view's elements with contents that hold there what was written. -/
theorem write_at {κ : Kind} {sp : Space} {s : Shape} {e : EltTy} {v : View sig κ sp s e} (f g : v.ty.Contents (Elt F)) (w : s.Idx → Elt F e)
    (h : ∀ x, _root_.cast (congrArg (Elt F) v.elt_eq.symm) (w x) = g (v.emb x)) :
    ∀ i ∈ v.set, v.write (Elt F) f w Finset.univ i = g i := by
  intro i hi
  obtain ⟨x, -, rfl⟩ := Finset.mem_map.mp hi
  rw [View.write_emb_of_mem _ _ (Finset.mem_univ x), h]

/-- What lands in the receiving chunk. -/
theorem land_recvB (k : Fin 8) (f g : Vec F S256x1024 .bf16) :
    ∀ i ∈ (recvB k).view.set, (recvB k).view.write (Elt F) f ((partB k).view.read (Elt F) g) Finset.univ i = g i :=
  write_at _ _ _ (fun _ => rfl)
theorem land_gatB {o : ℕ} (h : RowOk o 256) (k : Fin 8) (f g : Vec F S1024x1024 .bf16) :
    ∀ i ∈ (gatB h k).view.set, (gatB h k).view.write (Elt F) f ((gatB h k).view.read (Elt F) g) Finset.univ i = g i :=
  write_at _ _ _ (fun _ => rfl)
theorem land_gatH {o : ℕ} (h : RowOk o 128) (k : Fin 8) (f g : Vec F S1024x1024 .bf16) :
    ∀ i ∈ (gatH h k).view.set, (gatH h k).view.write (Elt F) f ((gatH h k).view.read (Elt F) g) Finset.univ i = g i :=
  write_at _ _ _ (fun _ => rfl)

/-- What a copy of weight rows leaves in its slot. -/
theorem land_wbB (s : Fin 2) (p : Fin 4) (f : Vec F S2x256x4096 .f32) :
    (wbB s).view.read (Elt F) ((wbB s).view.write (Elt F) f ((wB p).view.read (Elt F) (Wt c)) Finset.univ) = wrow Wt c p :=
  View.read_write_univ _ _

abbrev M0 : Memref sig .tc .vmem S256x1024 .bf16 := Memref.whole cc0_scratch0
abbrev M2 : Memref sig .tc .vmem S1024x1024 .bf16 := Memref.whole cc0_scratch2
abbrev M3 : Memref sig .tc .vmem S2x256x4096 .f32 := Memref.whole cc0_scratch3
abbrev M4 : Memref sig .tc .vmem S2x256x4096 .bf16 := Memref.whole cc0_scratch4
abbrev A0 : Memref sig .tc .vmem S256x4096 .bf16 := Memref.whole cc0_stg0_0
abbrev A2 : Memref sig .tc .vmem S1024x1024 .f32 := Memref.whole cc0_stg1_0
abbrev rA : Rect S256x4096 := Rect.unit (s := S256x4096) ![0, 0] S256x4096.size inb_S256x4096_S256x4096_0_0

theorem read_A0 (f : Vec F S256x4096 .bf16) : (A0.access rA).read (Elt F) f = f := by
  funext x
  show f (rA.emb x) = f x
  refine congrArg f (funext fun a => Fin.ext ?_)
  fin_cases a
  · show 0 + 1 * (x 0).val = (x 0).val; omega
  · show 0 + 1 * (x 1).val = (x 1).val; omega

/-- The product step's stored value. -/
theorem pay3_eq (p : Fin 4) (s : Fin 2) (f : Vec F S2x256x4096 .f32) (hf : (wbB s).view.read (Elt F) f = wrow Wt c p) (g : Vec F S2x256x4096 .bf16) :
    k0_pay3 ((A0.access rA).read (Elt F) (X c))
      ((M4.access (rS s)).read (Elt F) ((M4.access (rS s)).write (Elt F) g (k0_pay2 ((M3.access (rS s)).read (Elt F) f)) Finset.univ))
      = prodV X Wt c p := by
  rw [View.read_write_univ, read_A0]
  unfold k0_pay3 k0_pay2 prodV
  dsimp only
  rw [shapeCast_self, shapeCast_self, shapeCast_shapeCast,
    show shapeCast S256x4096 ((M3.access (rS s)).read (Elt F) f) shapeCasts_S1x256x4096_S256x4096 = (wbB s).view.read (Elt F) f from rfl, hf]

/-- The product step fills its two chunks. -/
theorem prod_at (p : Fin 4) (f : Vec F S256x1024 .bf16) :
    ∀ i ∈ (M0.access (rQ p)).set, (M0.access (rQ p)).write (Elt F) f (prodV X Wt c p) Finset.univ i = partF X Wt c i :=
  write_at _ _ _ fun x => by
    show prodV X Wt c p x = partF X Wt c ((rQ p).emb x)
    refine (partF_at X Wt c _ p x ?_ ?_).symm
    · show 0 + 1 * (x 0).val = _; omega
    · show 256 * p.val + 1 * (x 1).val = _; omega

/-- The reduction fills the own rows of its chunk. -/
theorem add_at (k : Fin 8) (f : Vec F S1024x1024 .bf16) :
    ∀ i ∈ (gatB (geoOf c).hown k).view.set,
      (gatB (geoOf c).hown k).view.write (Elt F) f (k0_pay9 ((partB k).view.read (Elt F) (partF X Wt c)) ((recvB k).view.read (Elt F) (partF X Wt (xdev c)))) Finset.univ i
        = gatF X Wt c i :=
  write_at _ _ _ fun x => by
    show k0_pay9 _ _ x = gatF X Wt c ((rG (geoOf c).hown k).emb x)
    have ho := own_blk c
    rw [gatF_at X Wt c _ (blk c) ((rP k).emb x) (by
        show (geoOf c).own + 1 * (x 0).val = 256 * (blk c).val + (0 + 1 * (x 0).val); omega)
      (by show 128 * k.val + 1 * (x 1).val = 128 * k.val + 1 * (x 1).val; rfl), sib_blk]
    unfold k0_pay9
    dsimp only
    rw [shapeCast_self]
    rfl

/-- The result's rows. -/
theorem out_at {o : ℕ} (h : RowOk o 256) (f : Vec F S1024x1024 .f32) :
    ∀ i ∈ (A2.access (rR h)).set, (A2.access (rR h)).write (Elt F) f (k0_pay1 ((M2.access (rR h)).read (Elt F) (gatF X Wt c))) Finset.univ i = outF X Wt c i :=
  write_at _ _ _ fun _ => rfl

end Contents

end Cert.KernelIdeal.Pieces

end
-- ==== Proof.Moves.lean ====
/- The ghost state of one transfer, before it is issued, in flight and done, and the steps that take it
   from one to the next. -/
module

public import proofs.«01_k».proof.Proof.Pieces

@[expose] public section

set_option backward.proofsInPublic true

noncomputable section

namespace Cert.KernelIdeal.Moves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps Cert.KernelIdeal.Proto Cert.KernelIdeal.Pieces

variable {F : FTy → Type} [FloatOps F]

local notation "𝕄" => MT nD τ sig Unit (Elt F) ℕ UU ℕ

/-! ## The cells -/

/-- The kernel's own semaphores. -/
def osem (i : Fin 82) : SemLoc sig := .dma ⟨2 + i.val, by have h := i.isLt; show 2 + i.val < 84; omega⟩
def barCells : Finset (GSem nD τ sig) := Finset.univ.image barCell
def ownCells : Finset (GSem nD τ sig) := Finset.univ.image fun x : Dev nD × Fin 82 => ((x.1 : Thread nD τ), osem x.2)

/-- A transfer's number among the kernel's own semaphores, and a copy's. -/
abbrev sendI (e : PC) : Fin 82 := ⟨2 + (8 * e.1.val + e.2.val), by have h1 := e.1.isLt; have h2 := e.2.isLt; omega⟩
abbrev recvI (e : PC) : Fin 82 := ⟨42 + (8 * e.1.val + e.2.val), by have h1 := e.1.isLt; have h2 := e.2.isLt; omega⟩
abbrev copyI (s : Fin 2) : Fin 82 := ⟨s.val, by have h1 := s.isLt; omega⟩
theorem osem_send (e : PC) : osem (sendI e) = .dma (sendS e) :=
  congrArg SemLoc.dma (Fin.ext (by show 2 + (2 + (8 * e.1.val + e.2.val)) = 4 + (8 * e.1.val + e.2.val); omega))
theorem osem_recv (e : PC) : osem (recvI e) = .dma (recvS e) :=
  congrArg SemLoc.dma (Fin.ext (by show 2 + (42 + (8 * e.1.val + e.2.val)) = 44 + (8 * e.1.val + e.2.val); omega))
theorem osem_copy (s : Fin 2) : osem (copyI s) = .dma (copyS s) := rfl

section Moves

variable (X : (c : Dev nD) → Vec F S256x4096 .bf16) (Wt : (c : Dev nD) → Vec F S1024x4096 .f32)
variable (K : GSem nD τ sig → ℕ) (c : Dev nD)

/-- Every cell's invariant, and the order. -/
def ctx : sProp 𝕄 := iprop(bigSep (barCells ∪ ownCells) (fun g => cellInv ER (Rd X Wt) (K g) g) ∗ levAts L lv)
instance ctx_persistent : BI.Persistent (ctx X Wt K) := by unfold ctx; infer_instance

theorem ctx_lev : ctx X Wt K ⊢ (levAts L lv : sProp 𝕄) := by
  unfold ctx; iintro ⟨-, H⟩; iexact H
theorem ctx_inv {g : GSem nD τ sig} (h : g ∈ barCells ∪ ownCells) : ctx X Wt K ⊢ cellInv ER (Rd X Wt) (K g) g := by
  unfold ctx
  iintro ⟨H, -⟩
  iapply (show bigSep (barCells ∪ ownCells) (fun g => cellInv ER (Rd X Wt) (K g) g) ⊢ cellInv ER (Rd X Wt) (K g) g from BI.bigSep_elim h); iexact H
theorem ctx_bar : ctx X Wt K ⊢ cellInv ER (Rd X Wt) (K (barCell c)) (barCell c) :=
  ctx_inv X Wt K (Finset.mem_union_left _ (Finset.mem_image_of_mem _ (Finset.mem_univ _)))
theorem ctx_own (i : Fin 82) (sm : SemLoc sig) (h : osem i = sm) :
    ctx X Wt K ⊢ cellInv ER (Rd X Wt) (K ((c : Thread nD τ), sm)) ((c : Thread nD τ), sm) :=
  ctx_inv X Wt K (Finset.mem_union_right _ (Finset.mem_image.mpr ⟨(c, i), Finset.mem_univ _, by rw [h]⟩))
theorem ctx_send (e : PC) : ctx X Wt K ⊢ cellInv ER (Rd X Wt) (K (sendCell c e)) (sendCell c e) := ctx_own X Wt K c _ _ (osem_send e)
theorem ctx_recv (e : PC) : ctx X Wt K ⊢ cellInv ER (Rd X Wt) (K (recvCell c e)) (recvCell c e) := ctx_own X Wt K c _ _ (osem_recv e)
theorem ctx_copy (s : Fin 2) : ctx X Wt K ⊢ cellInv ER (Rd X Wt) (K (copyCell c s)) (copyCell c s) := ctx_own X Wt K c _ _ (osem_copy s)

/-- What `c` owes for the sends of a list, whatever it has waited on. -/
def owesE (l : List PC) : sProp 𝕄 := iprop(∃ W, owes (c : Thread nD τ) (owedL c l) W)

/-- A transfer's ghost state at the start, without its landing place. -/
def TI (e : PC) : sProp 𝕄 :=
  iprop(atPos ER (sendCell c e) 0 ∅ 0 ∗ atPos ER (recvCell c e) 0 ∅ 0 ∗ dutyTok ER (sendCell c e) 0 0
    ∗ dutyTok ER (recvCell (peer e c) e) 0 0 ∗ cred (tallyAt (recvCell c e) () (amtE e)) ∗ reached ER (sendCell c e) 0)
/-- Its landing place, and that the far cell is open. -/
def TL (e : PC) : sProp 𝕄 := iprop(landAny c (peer e c) e ∗ reached ER (recvCell (peer e c) e) 0)
/-- Ready to issue. -/
def T0 (e : PC) : sProp 𝕄 := iprop(TI c e ∗ TL c e)
/-- In flight. -/
def T1 (e : PC) : sProp 𝕄 :=
  iprop(atPos ER (sendCell c e) 0 ∅ 0 ∗ atPos ER (recvCell c e) 0 ∅ 0 ∗ cred (tallyAt (sendCell c e) () (amtE e))
    ∗ cred (tallyAt (recvCell c e) () (amtE e)))
/-- Done. -/
def T2 (e : PC) : sProp 𝕄 := iprop(atPos ER (sendCell c e) 1 ∅ 0 ∗ atPos ER (recvCell c e) 1 ∅ 0)

/-! ## Issuing -/

/-- Issue a transfer of `src` into the same-numbered place of its peer. -/
theorem send {s : Shape} (e : PC) (l : List PC) (d : Dev nD) (hd : d = peer e c) (src dst : Memref sig .tc .vmem s .bf16) (q : PosShare TreeShare)
    (fs : Buf (Elt F) (src.view.loc (c : Thread nD τ)))
    (hN : dst.view.dmaCredit = amtE e)
    (hs : srcPt X Wt c e = mpt src c q fs)
    (ha : landAny (F := F) c (peer e c) e = mptAny dst (peer e c))
    (hl : ∀ fd : Buf (Elt F) (dst.view.loc (peer e c : Thread nD τ)),
      mpt dst (peer e c) fullShare (dst.view.write (Elt F) fd (src.view.read (Elt F) fs) Finset.univ) ⊢ landPt X Wt c (peer e c) e)
    {hsrc : src.view.WordExact} {hdst : dst.view.WordExact} {hsc : dst.view.ref.isScScratch = false}
    {hsem : DmaTarget.Typed .vmem (.dma (recvS e)) (.remote (d : Thread nD τ) dst (.dma (sendS e)) hsc)} (Kt : PUnit → sProp 𝕄) :
    iprop(ctx X Wt K ∗ T0 c e ∗ srcPt X Wt c e ∗ owesE c (e :: l))
      ⊢ iprop(((T1 c e ∗ owesE c l) -∗ Kt ⟨⟩)
        -∗ wp frame (wpE (defs₀ (F := F)) 𝒱₀ c none) Set.univ
          (Prog.lift (.enqueueDma src (.remote (d : Thread nD τ) dst (.dma (sendS e)) hsc) (.dma (recvS e)) hsrc hdst hsem)) Kt) := by
  subst hd
  unfold T0 TI TL T1 owesE
  rw [hs, ha]
  simp only [Prog.lift]
  iintro ⟨#Hc, ⟨⟨HaS, HaR, HtS, HtR, HcR, #HrS⟩, ⟨%fd, Hd⟩, #HrR⟩, Hsrc, ⟨%W, HO⟩⟩
  iintro Hk
  iapply (Rounds.wp_send_pointsTo 𝒱₀ ER (Rd X Wt) (c : Thread nD τ) none (c' := (peer e c : Thread nD τ)) (src := src) (dst := dst)
      (sS := .dma (sendS e)) (sem := .dma (recvS e)) (q := q) (fs := fs) (κ₁ := K (sendCell c e)) (κ₂ := K (recvCell (peer e c) e))
      (r₁ := 0) (r₂ := 0) (d₁ := 0) (d₂ := 0) (fd := fd)
      (by rw [duties_send]; exact Finset.mem_singleton_self _) (by rw [duties_recv]; exact Finset.mem_singleton_self _)
      () () (amtE e) hN (amount_send X Wt c e 0 0) (amount_recv X Wt (peer e c) e 0 0) (owedL c l) rfl (W := W)
      (by rw [payload_send, hs])
      (by rw [payload_recv, peer_peer]; exact hl fd)) $$ [Hsrc Hd HO HtS HtR]
  · isplitr; · iapply (ctx_send X Wt K c e); iexact Hc
    isplitr; · iapply (ctx_recv X Wt K (peer e c) e); iexact Hc
    isplitl [Hsrc]; · iexact Hsrc
    isplitl [Hd]; · iexact Hd
    isplitl [HO]; · iexact HO
    isplitl [HtS]; · iexact HtS
    isplitr; · iexact HrS
    isplitl [HtR]; · iexact HtR
    iexact HrR
  iintro ⟨HcS, HO⟩
  rw [wp_ret]
  imodintro
  iapply Hk
  isplitl [HaS HaR HcS HcR]
  · isplitl [HaS]; · iexact HaS
    isplitl [HaR]; · iexact HaR
    isplitl [HcS] <;> iassumption
  iexists _; iexact HO

/-- Wait for a transfer's own end, then for its far end's landing here. -/
theorem wait {s s' : Shape} {e₁ e₂ : EltTy} {sp sp' sp₁ sp₁' : Space} {s₁ s₁' : Shape} {e₁' e₂' : EltTy} (e : PC) (l : List PC)
    (a : Memref sig .tc sp s e₁) (b : Memref sig .tc sp' s' e₂) (a' : Memref sig .tc sp₁ s₁ e₁') (b' : Memref sig .tc sp₁' s₁' e₂')
    (hN : b.view.dmaCredit = amtE e) (hN' : b'.view.dmaCredit = amtE e)
    (hl : ∀ e' ∈ l, ord e < ord e')
    {ha : a.view.WordExact} {hb : b.view.WordExact} {ha' : a'.view.WordExact} {hb' : b'.view.WordExact} (Kt : PUnit → sProp 𝕄) :
    iprop(ctx X Wt K ∗ T1 c e ∗ owesE c l)
      ⊢ iprop(((T2 c e ∗ srcPt X Wt c e ∗ landPt X Wt (peer e c) c e ∗ owesE c l) -∗ Kt ⟨⟩)
        -∗ wp frame (wpE (defs₀ (F := F)) 𝒱₀ c none) Set.univ
          (do Prog.lift (.waitDma2 (sendS e) a b ha hb)
              Prog.lift (.waitDma2 (recvS e) a' b' ha' hb')) Kt) := by
  unfold T1 T2 owesE
  simp only [Prog.lift, Prog.bind_op, Prog.bind_ret, Prog.pure_eq_ret]
  iintro ⟨#Hc, ⟨HaS, HaR, HcS, HcR⟩, ⟨%W, HO⟩⟩
  iintro Hk
  iapply (Rounds.wp_wait_rest_token 𝒱₀ ER (Rd X Wt) (c : Thread nD τ) none (κ := K (sendCell c e))
      (wpE_waitDma2_eq (src := a) (dst := b) 𝒱₀ (c : Thread nD τ) none Set.univ) (Set.mem_univ _) () (O := owedL c l) (W := W) (R := 0) (m := 0) (T := ∅)
      ((Nat.zero_add _).trans (hN.trans (expect_send X Wt c e).symm))) $$ [HcS HO HaS]
  · isplitr; · iapply (ctx_send X Wt K c e); iexact Hc
    isplitl [HcS]; · rw [hN]; iexact HcS
    isplitl [HO]; · iexact HO
    isplitr
    · iapply (mayWait c (.dma (sendS e)) l 0 (by rw [kind_send]; exact le_refl 0) (fun e' _ => by omega))
      iapply (ctx_lev X Wt K); iexact Hc
    iexact HaS
  iintro ⟨HO, HaS, -, Hsrc⟩
  iapply (Rounds.wp_wait_rest_token 𝒱₀ ER (Rd X Wt) (c : Thread nD τ) none (κ := K (recvCell c e))
      (wpE_waitDma2_eq (src := a') (dst := b') 𝒱₀ (c : Thread nD τ) none Set.univ) (Set.mem_univ _) () (O := owedL c l) (R := 0) (m := 0) (T := ∅)
      ((Nat.zero_add _).trans (hN'.trans (expect_recv X Wt c e).symm))) $$ [HcR HO HaR]
  · isplitr; · iapply (ctx_recv X Wt K c e); iexact Hc
    isplitl [HcR]; · rw [hN']; iexact HcR
    isplitl [HO]; · iexact HO
    isplitr
    · iapply (mayWait c (.dma (recvS e)) l (2 + ord e) (by rw [kind_recv]; exact le_refl _) (fun e' he' => by have := hl e' he'; omega))
      iapply (ctx_lev X Wt K); iexact Hc
    iexact HaR
  iintro ⟨HO, HaR, -, Hl⟩
  rw [wp_ret]
  imodintro
  iapply Hk
  isplitl [HaS HaR]; · isplitl [HaS] <;> iassumption
  isplitl [Hsrc]; · iapply (Entails.of_eq (rest_send X Wt c e)); iexact Hsrc
  isplitl [Hl]; · iapply (Entails.of_eq (rest_recv X Wt c e)); iexact Hl
  iexists _; iexact HO

/-! ## The kernel's transfers -/

theorem sendX (k : Fin 8) (l : List PC) (Kt : PUnit → sProp 𝕄) :
    iprop(ctx X Wt K ∗ T0 c (0, k) ∗ srcPt X Wt c (0, k) ∗ owesE c ((0, k) :: l))
      ⊢ iprop(((T1 c (0, k) ∗ owesE c l) -∗ Kt ⟨⟩)
        -∗ wp frame (wpE (defs₀ (F := F)) 𝒱₀ c none) Set.univ (sendXP (F := F) (geoOf c).dx k) Kt) :=
  send X Wt K c (0, k) l (geoOf c).dx rfl (partB k) (recvB k) fullShare (partF X Wt c) (cr_recvB k) rfl rfl
    (fun fd => Entails.of_eq (pointsTo_congr (land_recvB k fd (partF X Wt c)))) Kt

theorem sendZ (k : Fin 8) (l : List PC) (Kt : PUnit → sProp 𝕄) :
    iprop(ctx X Wt K ∗ T0 c (1, k) ∗ srcPt X Wt c (1, k) ∗ owesE c ((1, k) :: l))
      ⊢ iprop(((T1 c (1, k) ∗ owesE c l) -∗ Kt ⟨⟩)
        -∗ wp frame (wpE (defs₀ (F := F)) 𝒱₀ c none) Set.univ (sendBP (F := F) 1 (geoOf c).dz (geoOf c).hown k) Kt) :=
  send X Wt K c (1, k) l (geoOf c).dz rfl (gatB (geoOf c).hown k) (gatB (geoOf c).hown k) h1 (gatF X Wt c) (cr_gatB _ k) rfl rfl
    (fun fd => Entails.of_eq ((pointsTo_congr (land_gatB _ k fd (gatF X Wt c))).trans
      (congrArg (mpt (gatB (geoOf c).hown k) (zdev c) fullShare) (gatF_zdev X Wt c).symm))) Kt

theorem sendY (k : Fin 8) (l : List PC) (Kt : PUnit → sProp 𝕄) :
    iprop(ctx X Wt K ∗ T0 c (2, k) ∗ srcPt X Wt c (2, k) ∗ owesE c ((2, k) :: l))
      ⊢ iprop(((T1 c (2, k) ∗ owesE c l) -∗ Kt ⟨⟩)
        -∗ wp frame (wpE (defs₀ (F := F)) 𝒱₀ c none) Set.univ (sendBP (F := F) 2 (geoOf c).dy (geoOf c).hown k) Kt) :=
  send X Wt K c (2, k) l (geoOf c).dy rfl (gatB (geoOf c).hown k) (gatB (geoOf c).hown k) h2 (gatF X Wt c) (cr_gatB _ k) rfl rfl
    (fun fd => Entails.of_eq ((pointsTo_congr (land_gatB _ k fd (gatF X Wt c))).trans
      (congrArg (mpt (gatB (geoOf c).hown k) (ydev c) fullShare) (gatF_ydev X Wt c).symm))) Kt

theorem forwardZ (k : Fin 8) (l : List PC) (Kt : PUnit → sProp 𝕄) :
    iprop(ctx X Wt K ∗ T0 c (3, k) ∗ srcPt X Wt c (3, k) ∗ owesE c ((3, k) :: l))
      ⊢ iprop(((T1 c (3, k) ∗ owesE c l) -∗ Kt ⟨⟩)
        -∗ wp frame (wpE (defs₀ (F := F)) 𝒱₀ c none) Set.univ (sendHP (F := F) 3 (geoOf c).dz (geoOf c).hzfw k) Kt) :=
  send X Wt K c (3, k) l (geoOf c).dz rfl (gatH (geoOf c).hzfw k) (gatH (geoOf c).hzfw k) h2 (gatF X Wt c) (cr_gatH _ k) rfl rfl
    (fun fd => Entails.of_eq ((pointsTo_congr (land_gatH _ k fd (gatF X Wt c))).trans
      (congrArg (mpt (gatH (geoOf c).hzfw k) (zdev c) fullShare) (gatF_zdev X Wt c).symm))) Kt

theorem forwardY (k : Fin 8) (l : List PC) (Kt : PUnit → sProp 𝕄) :
    iprop(ctx X Wt K ∗ T0 c (4, k) ∗ srcPt X Wt c (4, k) ∗ owesE c ((4, k) :: l))
      ⊢ iprop(((T1 c (4, k) ∗ owesE c l) -∗ Kt ⟨⟩)
        -∗ wp frame (wpE (defs₀ (F := F)) 𝒱₀ c none) Set.univ (sendHP (F := F) 4 (geoOf c).dy (geoOf c).hyfw k) Kt) :=
  send X Wt K c (4, k) l (geoOf c).dy rfl (gatH (geoOf c).hyfw k) (gatH (geoOf c).hyfw k) h2 (gatF X Wt c) (cr_gatH _ k) rfl rfl
    (fun fd => Entails.of_eq ((pointsTo_congr (land_gatH _ k fd (gatF X Wt c))).trans
      (congrArg (mpt (gatH (geoOf c).hyfw k) (ydev c) fullShare) (gatF_ydev X Wt c).symm))) Kt

end Moves

end Cert.KernelIdeal.Moves

end
-- ==== Proof.Chunks.lean ====
/- What one chunk goes through: its first transfer, the reduction, the two transfers of the sum, the two
   forwarding transfers, the last waits. -/
module

public import proofs.«01_k».proof.Proof.Moves

@[expose] public section

set_option backward.proofsInPublic true

noncomputable section

namespace Cert.KernelIdeal.Chunks

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps Cert.KernelIdeal.Proto Cert.KernelIdeal.Pieces Cert.KernelIdeal.Moves

variable {F : FTy → Type} [FloatOps F]

local notation "𝕄" => MT nD τ sig Unit (Elt F) ℕ UU ℕ

/-! ## Rows of a block and of its halves -/

theorem top {o : ℕ} (h : RowOk o 256) : RowOk o 128 := ⟨by have := h.le; omega, h.dv⟩
theorem bot {o : ℕ} (h : RowOk o 256) : RowOk (o + 128) 128 := ⟨by have := h.le; omega, by have := h.dv; omega⟩

theorem halves_set {o : ℕ} (h : RowOk o 256) (k : Fin 8) : (gatB h k).view.set = (gatH (top h) k).view.set ∪ (gatH (bot h) k).view.set := by
  rw [set_gatB, set_gatH, set_gatH]
  ext i
  rw [Finset.mem_union, mem_rG, mem_rH, mem_rH]
  omega
theorem halves_disj {o : ℕ} (h : RowOk o 256) (k : Fin 8) : Disjoint (gatH (top h) k).view.set (gatH (bot h) k).view.set := by
  rw [set_gatH, set_gatH, Finset.disjoint_left]
  intro i
  rw [mem_rH, mem_rH]
  omega
/-- A block's chunk is its two halves. -/
theorem halves {o : ℕ} (h : RowOk o 256) (k : Fin 8) (c : Dev nD) (q : PosShare TreeShare) (f : Vec F S1024x1024 .bf16) :
    (mpt (gatB h k) c q f : sProp 𝕄) ⊣⊢ iprop(mpt (gatH (top h) k) c q f ∗ mpt (gatH (bot h) k) c q f) := by
  unfold mpt
  rw [halves_set h k]
  exact pointsTo_union (halves_disj h k)
/-- A chunk at full share is its two shares. -/
theorem shares {o : ℕ} (h : RowOk o 256) (k : Fin 8) (c : Dev nD) (f : Vec F S1024x1024 .bf16) :
    (mpt (gatB h k) c fullShare f : sProp 𝕄) ⊣⊢ iprop(mpt (gatB h k) c h1 f ∗ mpt (gatB h k) c h2 f) :=
  pointsTo_share (PosShare.mem_left_op_right fullShare)

theorem castB {o o' : ℕ} (e : o = o') (h : RowOk o 256) (h' : RowOk o' 256) (k : Fin 8) (c : Dev nD) (q : PosShare TreeShare) (f : Vec F S1024x1024 .bf16) :
    (mpt (gatB h k) c q f : sProp 𝕄) = mpt (gatB h' k) c q f := by subst e; rfl
theorem castH {o o' : ℕ} (e : o = o') (h : RowOk o 128) (h' : RowOk o' 128) (k : Fin 8) (c : Dev nD) (q : PosShare TreeShare) (f : Vec F S1024x1024 .bf16) :
    (mpt (gatH h k) c q f : sProp 𝕄) = mpt (gatH h' k) c q f := by subst e; rfl

section Chunks

variable (X : (c : Dev nD) → Vec F S256x4096 .bf16) (Wt : (c : Dev nD) → Vec F S1024x4096 .f32)
variable (K : GSem nD τ sig → ℕ) (c : Dev nD)

/-! ## The stages -/

/-- Before its first transfer: its five transfers ready, and its own rows. -/
def C0 (k : Fin 8) : sProp 𝕄 :=
  iprop(T0 c (0, k) ∗ T0 c (1, k) ∗ T0 c (2, k) ∗ T0 c (3, k) ∗ T0 c (4, k) ∗ mptAny (gatB (geoOf c).hown k) c)
/-- The first transfer in flight. -/
def C1 (k : Fin 8) : sProp 𝕄 :=
  iprop(T1 c (0, k) ∗ T0 c (1, k) ∗ T0 c (2, k) ∗ T0 c (3, k) ∗ T0 c (4, k) ∗ mptAny (gatB (geoOf c).hown k) c)
/-- The first transfer done: the product's chunk and the received one back. -/
def CD (k : Fin 8) : sProp 𝕄 := iprop(T2 c (0, k) ∗ srcPt X Wt c (0, k) ∗ landPt X Wt (xdev c) c (0, k))
/-- Reduced, the two transfers of the sum in flight. -/
def C2 (k : Fin 8) : sProp 𝕄 := iprop(CD X Wt c k ∗ T1 c (1, k) ∗ T1 c (2, k) ∗ T0 c (3, k) ∗ T0 c (4, k))
/-- The sums of this device and of its two neighbours, as far as they are not lent out. -/
def CO (k : Fin 8) : sProp 𝕄 := mpt (gatB (geoOf c).hown k) c fullShare (gatF X Wt c)
def CZ (k : Fin 8) : sProp 𝕄 := mpt (gatB (geoOf c).hrz k) c h1 (gatF X Wt c)
def CY (k : Fin 8) : sProp 𝕄 := mpt (gatB (geoOf c).hry k) c h1 (gatF X Wt c)
/-- Both forwarding transfers in flight. -/
def C3 (k : Fin 8) : sProp 𝕄 :=
  iprop(CD X Wt c k ∗ T2 c (1, k) ∗ T2 c (2, k) ∗ T1 c (3, k) ∗ T1 c (4, k)
    ∗ mpt (gatH (top (geoOf c).hrz) k) c h2 (gatF X Wt c) ∗ mpt (gatH (bot (geoOf c).hry) k) c h2 (gatF X Wt c))
/-- All transfers done. -/
def C4 (k : Fin 8) : sProp 𝕄 :=
  iprop(CD X Wt c k ∗ T2 c (1, k) ∗ T2 c (2, k) ∗ T2 c (3, k) ∗ T2 c (4, k)
    ∗ mpt (gatB (geoOf c).hrz k) c h2 (gatF X Wt c) ∗ mpt (gatB (geoOf c).hry k) c h2 (gatF X Wt c))
/-- The sum of the device across. -/
def CR (k : Fin 8) : sProp 𝕄 := mpt (gatB (geoOf c).hrd k) c fullShare (gatF X Wt c)

/-! ## What lands -/

theorem land1 (k : Fin 8) : landPt X Wt (peer (1, k) c) c (1, k) = mpt (gatB (geoOf c).hrz k) c fullShare (gatF X Wt c) :=
  castB (rz_eq c) (geoOf (zdev c)).hown (geoOf c).hrz k c fullShare (gatF X Wt c)
theorem land2 (k : Fin 8) : landPt X Wt (peer (2, k) c) c (2, k) = mpt (gatB (geoOf c).hry k) c fullShare (gatF X Wt c) :=
  castB (ry_eq c) (geoOf (ydev c)).hown (geoOf c).hry k c fullShare (gatF X Wt c)
theorem land3 (k : Fin 8) : landPt X Wt (peer (3, k) c) c (3, k) = mpt (gatH (top (geoOf c).hrd) k) c fullShare (gatF X Wt c) :=
  castH (zfw_zdev c) (geoOf (zdev c)).hzfw (top (geoOf c).hrd) k c fullShare (gatF X Wt c)
theorem land4 (k : Fin 8) : landPt X Wt (peer (4, k) c) c (4, k) = mpt (gatH (bot (geoOf c).hrd) k) c fullShare (gatF X Wt c) :=
  castH (yfw_ydev c) (geoOf (ydev c)).hyfw (bot (geoOf c).hrd) k c fullShare (gatF X Wt c)
theorem src1 (k : Fin 8) : srcPt X Wt c (1, k) = mpt (gatB (geoOf c).hown k) c h1 (gatF X Wt c) := rfl
theorem src2 (k : Fin 8) : srcPt X Wt c (2, k) = mpt (gatB (geoOf c).hown k) c h2 (gatF X Wt c) := rfl
theorem src3 (k : Fin 8) : srcPt X Wt c (3, k) = mpt (gatH (top (geoOf c).hry) k) c h2 (gatF X Wt c) :=
  castH (zfw_eq c) (geoOf c).hzfw (top (geoOf c).hry) k c h2 (gatF X Wt c)
theorem src4 (k : Fin 8) : srcPt X Wt c (4, k) = mpt (gatH (bot (geoOf c).hrz) k) c h2 (gatF X Wt c) :=
  castH (yfw_eq c) (geoOf c).hyfw (bot (geoOf c).hrz) k c h2 (gatF X Wt c)

/-! ## Reducing -/

/-- The reduction after its waits. -/
def sumP {o : ℕ} (h : RowOk o 256) (k : Fin 8) : Pg F := do
  let a : Vec F S256x128 .bf16 ← Prog.lift (.load (Memref.whole cc0_scratch0) (rP k).toLoadRect (View.loadsAt_vmem h_S256x128))
  let b : Vec F S256x128 .bf16 ← Prog.lift (.load (Memref.whole cc0_scratch1) (rP k).toLoadRect (View.loadsAt_vmem h_S256x128))
  let _ : Vec F S256x128 .bf16 ← Prog.lift (.load (Memref.whole cc0_scratch2) (rG h k).toLoadRect (View.loadsAt_vmem h_S256x128))
  Prog.lift (.store (Memref.whole cc0_scratch2) (rG h k) (k0_pay9 a b) Finset.univ (View.stores_vmem h_S256x128 ((Memref.isWhole_whole _).storeExact_slice rfl _ (prG h k)) (fun _ => rfl)) (.inl rfl))
/-- The waits of a chunk's first transfer. -/
def waitXP (k : Fin 8) : Pg F := do
  Prog.lift (.waitDma2 (sendS (0, k)) (recvB k) (partB k) ((Memref.isWhole_whole _).wordExact_slice rfl _ (wwP k)) ((Memref.isWhole_whole _).wordExact_slice rfl _ (wwP k)))
  Prog.lift (.waitDma2 (recvS (0, k)) (partB k) (recvB k) ((Memref.isWhole_whole _).wordExact_slice rfl _ (wwP k)) ((Memref.isWhole_whole _).wordExact_slice rfl _ (wwP k)))
theorem addP_eq {o : ℕ} (h : RowOk o 256) (k : Fin 8) : addP (F := F) h k = (waitXP k >>= fun _ => sumP h k) := rfl

theorem sum (k : Fin 8) (Kt : PUnit → sProp 𝕄) :
    iprop(srcPt X Wt c (0, k) ∗ landPt X Wt (xdev c) c (0, k) ∗ mptAny (gatB (geoOf c).hown k) c)
      ⊢ iprop(((srcPt X Wt c (0, k) ∗ landPt X Wt (xdev c) c (0, k) ∗ mpt (gatB (geoOf c).hown k) c fullShare (gatF X Wt c)) -∗ Kt ⟨⟩)
        -∗ wp frame (wpE (defs₀ (F := F)) 𝒱₀ c none) Set.univ (sumP (F := F) (geoOf c).hown k) Kt) := by
  unfold srcPt landPt sumP
  dsimp only
  simp only [Prog.lift, Prog.bind_op, Prog.bind_ret, Prog.pure_eq_ret]
  iintro ⟨Hp, Hr, ⟨%f, Hg⟩⟩
  iintro Hk
  iapply (wp_load_rect 𝒱₀ (c : Thread nD τ) none Set.univ (m := Memref.whole cc0_scratch0) (r := rP k) (S := (partB k).view.set) (Finset.Subset.refl _)) $$ Hp
  iintro Hp
  iapply (wp_load_rect 𝒱₀ (c : Thread nD τ) none Set.univ (m := Memref.whole cc0_scratch1) (r := rP k) (S := (recvB k).view.set) (Finset.Subset.refl _)) $$ Hr
  iintro Hr
  iapply (wp_load_rect 𝒱₀ (c : Thread nD τ) none Set.univ (m := Memref.whole cc0_scratch2) (r := rG (geoOf c).hown k) (S := (gatB (geoOf c).hown k).view.set) (Finset.Subset.refl _)) $$ Hg
  iintro Hg
  iapply (wp_store 𝒱₀ (c : Thread nD τ) none Set.univ (m := Memref.whole cc0_scratch2) (r := rG (geoOf c).hown k) (S := (gatB (geoOf c).hown k).view.set) (Finset.Subset.refl _)) $$ Hg
  iintro Hg
  rw [wp_ret]
  imodintro
  iapply Hk
  isplitl [Hp]; · iexact Hp
  isplitl [Hr]; · iexact Hr
  iapply (Entails.of_eq (pointsTo_congr (add_at X Wt c k f))); iexact Hg

theorem reduce (k : Fin 8) (l : List PC) (hl : ∀ e' ∈ (1, k) :: (2, k) :: l, ord (0, k) < ord e') (Kt : PUnit → sProp 𝕄) :
    iprop(ctx X Wt K ∗ C1 c k ∗ owesE c ((1, k) :: (2, k) :: l))
      ⊢ iprop(((C2 X Wt c k ∗ owesE c l) -∗ Kt ⟨⟩)
        -∗ wp frame (wpE (defs₀ (F := F)) 𝒱₀ c none) Set.univ (reduceP (F := F) (geoOf c) k) Kt) := by
  unfold C1 C2 CD reduceP
  rw [addP_eq, wp_bind, wp_bind]
  iintro ⟨#Hc, ⟨Ht0, Ht1, Ht2, Ht3, Ht4, Hg⟩, HO⟩
  iintro Hk
  unfold waitXP
  iapply (wait X Wt K c (0, k) ((1, k) :: (2, k) :: l) (recvB k) (partB k) (partB k) (recvB k) (cr_partB k) (cr_recvB k) hl) $$ [Ht0 HO]
  · isplitr; · iexact Hc
    isplitl [Ht0] <;> iassumption
  iintro ⟨Ht0, Hs, Hl, HO⟩
  iapply (sum X Wt c k) $$ [Hs Hl Hg]
  · isplitl [Hs]; · iexact Hs
    isplitl [Hl] <;> iassumption
  iintro ⟨Hs, Hl, Hg⟩
  ihave Hg' := (shares (geoOf c).hown k c (gatF X Wt c)).1 $$ Hg
  icases Hg' with ⟨Hg1, Hg2⟩
  rw [wp_bind]
  iapply (sendZ X Wt K c k ((2, k) :: l)) $$ [Ht1 Hg1 HO]
  · isplitr; · iexact Hc
    isplitl [Ht1]; · iexact Ht1
    isplitl [Hg1]; · iapply (Entails.of_eq (src1 X Wt c k).symm); iexact Hg1
    iexact HO
  iintro ⟨Ht1, HO⟩
  iapply (sendY X Wt K c k l) $$ [Ht2 Hg2 HO]
  · isplitr; · iexact Hc
    isplitl [Ht2]; · iexact Ht2
    isplitl [Hg2]; · iapply (Entails.of_eq (src2 X Wt c k).symm); iexact Hg2
    iexact HO
  iintro ⟨Ht2, HO⟩
  iapply Hk
  isplitr [HO]
  · isplitl [Ht0 Hs Hl]
    · isplitl [Ht0]; · iexact Ht0
      isplitl [Hs] <;> iassumption
    isplitl [Ht1]; · iexact Ht1
    isplitl [Ht2]; · iexact Ht2
    isplitl [Ht3] <;> iassumption
  iexact HO

/-! ## Forwarding -/

theorem forward (k : Fin 8) (l : List PC) (hl1 : ∀ e' ∈ (4, k) :: (3, k) :: l, ord (1, k) < ord e') (hl2 : ∀ e' ∈ (3, k) :: l, ord (2, k) < ord e')
    (Kt : PUnit → sProp 𝕄) :
    iprop(ctx X Wt K ∗ C2 X Wt c k ∗ owesE c ((4, k) :: (3, k) :: l))
      ⊢ iprop(((C3 X Wt c k ∗ CO X Wt c k ∗ CZ X Wt c k ∗ CY X Wt c k ∗ owesE c l) -∗ Kt ⟨⟩)
        -∗ wp frame (wpE (defs₀ (F := F)) 𝒱₀ c none) Set.univ (forwardP (F := F) (geoOf c) k) Kt) := by
  unfold C2 C3 CO CZ CY forwardP
  rw [wp_bind]
  iintro ⟨#Hc, ⟨HD, Ht1, Ht2, Ht3, Ht4⟩, HO⟩
  iintro Hk
  unfold waitBP
  iapply (wait X Wt K c (1, k) ((4, k) :: (3, k) :: l) (gatB (geoOf c).hown k) (gatB (geoOf c).hown k) (gatB (geoOf c).hown k) (gatB (geoOf c).hown k)
    (cr_gatB _ k) (cr_gatB _ k) hl1) $$ [Ht1 HO]
  · isplitr; · iexact Hc
    isplitl [Ht1] <;> iassumption
  iintro ⟨Ht1, Hg1, Hz, HO⟩
  ihave Hz := (Entails.of_eq (land1 X Wt c k)) $$ Hz
  ihave Hz' := (shares (geoOf c).hrz k c (gatF X Wt c)).1 $$ Hz
  icases Hz' with ⟨Hz1, Hz2⟩
  ihave Hz' := (halves (geoOf c).hrz k c h2 (gatF X Wt c)).1 $$ Hz2
  icases Hz' with ⟨Hzt, Hzb⟩
  rw [wp_bind]
  iapply (forwardY X Wt K c k ((3, k) :: l)) $$ [Ht4 Hzb HO]
  · isplitr; · iexact Hc
    isplitl [Ht4]; · iexact Ht4
    isplitl [Hzb]; · iapply (Entails.of_eq (src4 X Wt c k).symm); iexact Hzb
    iexact HO
  iintro ⟨Ht4, HO⟩
  rw [wp_bind]
  iapply (wait X Wt K c (2, k) ((3, k) :: l) (gatB (geoOf c).hown k) (gatB (geoOf c).hown k) (gatB (geoOf c).hown k) (gatB (geoOf c).hown k)
    (cr_gatB _ k) (cr_gatB _ k) hl2) $$ [Ht2 HO]
  · isplitr; · iexact Hc
    isplitl [Ht2] <;> iassumption
  iintro ⟨Ht2, Hg2, Hy, HO⟩
  ihave Hy := (Entails.of_eq (land2 X Wt c k)) $$ Hy
  ihave Hy' := (shares (geoOf c).hry k c (gatF X Wt c)).1 $$ Hy
  icases Hy' with ⟨Hy1, Hy2⟩
  ihave Hy' := (halves (geoOf c).hry k c h2 (gatF X Wt c)).1 $$ Hy2
  icases Hy' with ⟨Hyt, Hyb⟩
  iapply (forwardZ X Wt K c k l) $$ [Ht3 Hyt HO]
  · isplitr; · iexact Hc
    isplitl [Ht3]; · iexact Ht3
    isplitl [Hyt]; · iapply (Entails.of_eq (src3 X Wt c k).symm); iexact Hyt
    iexact HO
  iintro ⟨Ht3, HO⟩
  iapply Hk
  isplitl [HD Ht1 Ht2 Ht3 Ht4 Hzt Hyb]
  · isplitl [HD]; · iexact HD
    isplitl [Ht1]; · iexact Ht1
    isplitl [Ht2]; · iexact Ht2
    isplitl [Ht3]; · iexact Ht3
    isplitl [Ht4]; · iexact Ht4
    isplitl [Hzt] <;> iassumption
  isplitl [Hg1 Hg2]
  · iapply (shares (geoOf c).hown k c (gatF X Wt c)).2
    isplitl [Hg1]; · iapply (Entails.of_eq (src1 X Wt c k)); iexact Hg1
    iapply (Entails.of_eq (src2 X Wt c k)); iexact Hg2
  isplitl [Hz1]; · iexact Hz1
  isplitl [Hy1] <;> iassumption

/-! ## The last waits -/

theorem last (k : Fin 8) (Kt : PUnit → sProp 𝕄) :
    iprop(ctx X Wt K ∗ C3 X Wt c k ∗ owesE c [])
      ⊢ iprop(((C4 X Wt c k ∗ CR X Wt c k ∗ owesE c []) -∗ Kt ⟨⟩)
        -∗ wp frame (wpE (defs₀ (F := F)) 𝒱₀ c none) Set.univ (lastP (F := F) (geoOf c) k) Kt) := by
  unfold C3 C4 CR lastP
  rw [wp_bind]
  iintro ⟨#Hc, ⟨HD, Ht1, Ht2, Ht3, Ht4, Hzt, Hyb⟩, HO⟩
  iintro Hk
  unfold waitHP
  iapply (wait X Wt K c (3, k) [] (gatH (geoOf c).hzfw k) (gatH (geoOf c).hzfw k) (gatH (geoOf c).hzfw k) (gatH (geoOf c).hzfw k)
    (cr_gatH _ k) (cr_gatH _ k) (fun e' he' => absurd he' List.not_mem_nil)) $$ [Ht3 HO]
  · isplitr; · iexact Hc
    isplitl [Ht3] <;> iassumption
  iintro ⟨Ht3, Hyt, Hrt, HO⟩
  iapply (wait X Wt K c (4, k) [] (gatH (geoOf c).hyfw k) (gatH (geoOf c).hyfw k) (gatH (geoOf c).hyfw k) (gatH (geoOf c).hyfw k)
    (cr_gatH _ k) (cr_gatH _ k) (fun e' he' => absurd he' List.not_mem_nil)) $$ [Ht4 HO]
  · isplitr; · iexact Hc
    isplitl [Ht4] <;> iassumption
  iintro ⟨Ht4, Hzb, Hrb, HO⟩
  ihave Hyt := (Entails.of_eq (src3 X Wt c k)) $$ Hyt
  ihave Hzb := (Entails.of_eq (src4 X Wt c k)) $$ Hzb
  ihave Hrt := (Entails.of_eq (land3 X Wt c k)) $$ Hrt
  ihave Hrb := (Entails.of_eq (land4 X Wt c k)) $$ Hrb
  iapply Hk
  isplitl [HD Ht1 Ht2 Ht3 Ht4 Hzt Hzb Hyt Hyb]
  · isplitl [HD]; · iexact HD
    isplitl [Ht1]; · iexact Ht1
    isplitl [Ht2]; · iexact Ht2
    isplitl [Ht3]; · iexact Ht3
    isplitl [Ht4]; · iexact Ht4
    isplitl [Hzt Hzb]
    · iapply (halves (geoOf c).hrz k c h2 (gatF X Wt c)).2
      isplitl [Hzt] <;> iassumption
    · iapply (halves (geoOf c).hry k c h2 (gatF X Wt c)).2
      isplitl [Hyt] <;> iassumption
  isplitl [Hrt Hrb]
  · iapply (halves (geoOf c).hrd k c fullShare (gatF X Wt c)).2
    isplitl [Hrt] <;> iassumption
  iexact HO

end Chunks

end Cert.KernelIdeal.Chunks

end
-- ==== Proof.Blocks.lean ====
/- The body's other steps: the copies of weight rows, the products, the barrier, the result's rows. -/
module

public import proofs.«01_k».proof.Proof.Chunks

@[expose] public section

set_option backward.proofsInPublic true

noncomputable section

namespace Cert.KernelIdeal.Blocks

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps Cert.KernelIdeal.Proto Cert.KernelIdeal.Pieces Cert.KernelIdeal.Moves
open Cert.KernelIdeal.Chunks

variable {F : FTy → Type} [FloatOps F]

local notation "𝕄" => MT nD τ sig Unit (Elt F) ℕ UU ℕ

/-! ## The two column chunks of a product -/

abbrev partQ (p : Fin 4) : Memref sig .tc .vmem S256x256 .bf16 := (Memref.whole cc0_scratch0).slice (rQ p) (fun _ => rfl)
theorem set_partQ (p : Fin 4) : (partQ p).view.set = (rQ p).set := View.set_slice_whole _ _
theorem pair_set (p : Fin 4) (k k' : Fin 8) (h : k.val = 2 * p.val) (h' : k'.val = 2 * p.val + 1) :
    (partQ p).view.set = (partB k).view.set ∪ (partB k').view.set := by
  rw [set_partQ, set_partB, set_partB]
  ext i
  rw [Finset.mem_union, mem_rQ, mem_rP, mem_rP]
  omega
theorem pair_disj (p : Fin 4) (k k' : Fin 8) (h : k.val = 2 * p.val) (h' : k'.val = 2 * p.val + 1) :
    Disjoint (partB k).view.set (partB k').view.set := by
  rw [set_partB, set_partB, Finset.disjoint_left]
  intro i
  rw [mem_rP, mem_rP]
  omega
theorem pair (p : Fin 4) (k k' : Fin 8) (h : k.val = 2 * p.val) (h' : k'.val = 2 * p.val + 1) (c : Dev nD) (q : PosShare TreeShare) (f : Vec F S256x1024 .bf16) :
    (mpt (partQ p) c q f : sProp 𝕄) ⊣⊢ iprop(mpt (partB k) c q f ∗ mpt (partB k') c q f) := by
  unfold mpt
  rw [pair_set p k k' h h']
  exact pointsTo_union (pair_disj p k k' h h')

/-- A set of elements held is its parts held. -/
theorem cut_eq {T : Type} [Fintype T] [DecidableEq T] {ℓ : Loc nD τ sig} (I : Finset (Idx ℓ)) (J : T → Finset (Idx ℓ)) (hm : ∀ i, i ∈ I ↔ ∃ t, i ∈ J t)
    (hd : ∀ t t', t ≠ t' → Disjoint (J t) (J t')) (q : PosShare TreeShare) (f : Buf (Elt F) ℓ) :
    (ℓ ↦[I]{q} f : sProp 𝕄) = bigSep Finset.univ fun t => ℓ ↦[J t]{q} f := by
  classical
  have hI : I = Finset.univ.biUnion J := by
    ext i
    rw [Finset.mem_biUnion, hm]
    exact ⟨fun ⟨t, h⟩ => ⟨t, Finset.mem_univ _, h⟩, fun ⟨t, _, h⟩ => ⟨t, h⟩⟩
  rw [hI]
  exact pointsTo_biUnion Finset.univ J fun t _ t' _ => hd t t'

/-! ## Rows of the gathered buffer -/

abbrev gatR {o : ℕ} (h : RowOk o 256) : Memref sig .tc .vmem S256x1024 .bf16 := (Memref.whole cc0_scratch2).slice (rR h) (fun _ => rfl)
theorem set_gatR {o : ℕ} (h : RowOk o 256) : (gatR h).view.set = (rR h).set := View.set_slice_whole _ _
theorem row_mem {o : ℕ} (h : RowOk o 256) (i : S1024x1024.Idx) : i ∈ (gatR h).view.set ↔ ∃ k : Fin 8, i ∈ (gatB h k).view.set := by
  rw [set_gatR, mem_rR]
  have h1 : (i 1).val < 1024 := (i 1).isLt
  constructor
  · intro hi
    refine ⟨⟨(i 1).val / 128, by omega⟩, ?_⟩
    rw [set_gatB, mem_rG]
    refine ⟨hi, ?_⟩
    show 128 * ((i 1).val / 128) ≤ (i 1).val ∧ (i 1).val < 128 * ((i 1).val / 128) + 128
    omega
  · rintro ⟨k, hk⟩
    rw [set_gatB, mem_rG] at hk
    exact hk.1
theorem row_disj {o : ℕ} (h : RowOk o 256) : ∀ k ∈ (Finset.univ : Finset (Fin 8)), ∀ k' ∈ (Finset.univ : Finset (Fin 8)), k ≠ k' →
    Disjoint (gatB h k).view.set (gatB h k').view.set := by
  intro k _ k' _ hne
  have hv : k.val ≠ k'.val := fun e => hne (Fin.ext e)
  rw [set_gatB, set_gatB, Finset.disjoint_left]
  intro i
  rw [mem_rG, mem_rG]
  omega
/-- Rows are their eight chunks. -/
theorem row {o : ℕ} (h : RowOk o 256) (c : Dev nD) (q : PosShare TreeShare) (f : Vec F S1024x1024 .bf16) :
    (mpt (gatR h) c q f : sProp 𝕄) = bigSep Finset.univ fun k : Fin 8 => mpt (gatB h k) c q f := by
  exact cut_eq (ℓ := (c : Thread nD τ).loc cc0_scratch2) (gatR h).view.set (fun k : Fin 8 => (gatB h k).view.set) (row_mem h)
    (fun k k' => row_disj h k (Finset.mem_univ _) k' (Finset.mem_univ _)) q f

section Blocks

variable (X : (c : Dev nD) → Vec F S256x4096 .bf16) (Wt : (c : Dev nD) → Vec F S1024x4096 .f32)
variable (K : GSem nD τ sig → ℕ) (c : Dev nD)

/-! ## Copies and products -/

theorem filled (p : Fin 4) (s : Fin 2) (fd : Vec F S2x256x4096 .f32) :
    iprop(mpt (wbB s) c fullShare ((wbB s).view.write (Elt F) fd ((wB p).view.read (Elt F) (Wt c)) Finset.univ) ∗ mpt (wB p) c fullShare (Wt c))
      ⊢ (copyPay Wt c s p : sProp 𝕄) := by
  unfold copyPay
  refine sep_mono ?_ .rfl
  iintro Hd
  iexists _
  isplitr
  · ipureintro; exact land_wbB Wt c s p fd
  iexact Hd

theorem copy (p : Fin 4) (s : Fin 2) (hs : slot p = s) (r : ℕ) (hr : r < 2) (hp : copyOf s r = p) (Kt : PUnit → sProp 𝕄) :
    iprop(ctx X Wt K ∗ dutyTok ER (copyCell c s) r 0 ∗ reached ER (copyCell c s) r ∗ mptAny (wbB s) c ∗ mpt (wB p) c fullShare (Wt c))
      ⊢ iprop((cred (tallyAt (copyCell c s) () NW) -∗ Kt ⟨⟩)
        -∗ wp frame (wpE (defs₀ (F := F)) 𝒱₀ c none) Set.univ (copyP (F := F) p) Kt) := by
  subst hs
  unfold copyP
  simp only [Prog.lift]
  iintro ⟨#Hc, Ht, #Hr, ⟨%fd, Hd⟩, Hs⟩
  iintro Hk
  iapply (Rounds.wp_copy_pointsTo 𝒱₀ ER (Rd X Wt) (c : Thread nD τ) none (src := wB p) (dst := wbB (slot p)) (sem := .dma (copyS (slot p))) (q := fullShare)
      (fs := Wt c) (fd := fd) (r := r) (d := 0) (κ := K (copyCell c (slot p)))
      (by rw [duties_copy X Wt c (slot p) r hr]; exact Finset.mem_singleton_self _) () NW (cr_wbB (slot p)) (amount_copy X Wt c (slot p) r 0)
      (by rw [payload_copy, hp]; exact filled Wt c p (slot p) fd)) $$ [Ht Hd Hs]
  · isplitr; · iapply (ctx_copy X Wt K c (slot p)); iexact Hc
    isplitl [Hs]; · iexact Hs
    isplitl [Hd]; · iexact Hd
    isplitl [Ht]; · iexact Ht
    iexact Hr
  iintro Hcr
  rw [wp_ret]
  imodintro
  iapply Hk
  iexact Hcr

/-- The buffer of rounded weight rows, at contents not chosen. -/
def anyW : sProp 𝕄 := iprop(∃ f : Buf (Elt F) ((c : Thread nD τ).loc cc0_scratch4), ((c : Thread nD τ).loc cc0_scratch4) ↦{fullShare} f)

/-- The product's steps after its wait. -/
def mulP (p : Fin 4) : Pg F := do
  let v : Vec F S1x256x4096 .f32 ← Prog.lift (.load (Memref.whole cc0_scratch3) (rS (slot p)).toLoadRect (View.loadsAt_vmem h_S1x256x4096))
  let _ : Vec F S1x256x4096 .bf16 ← Prog.lift (.load (Memref.whole cc0_scratch4) (rS (slot p)).toLoadRect (View.loadsAt_vmem h_S1x256x4096))
  Prog.lift (.store (Memref.whole cc0_scratch4) (rS (slot p)) (k0_pay2 v) Finset.univ (View.stores_vmem h_S1x256x4096 ((Memref.isWhole_whole _).storeExact_slice rfl _ (prS (slot p))) (fun _ => rfl)) (.inl rfl))
  let a : Vec F S256x4096 .bf16 ← Prog.lift (.load A0 (Rect.unit (s := S256x4096) ![0, 0] S256x4096.size inb_S256x4096_S256x4096_0_0).toLoadRect (View.loadsAt_vmem h_S256x4096))
  let w : Vec F S1x256x4096 .bf16 ← Prog.lift (.load (Memref.whole cc0_scratch4) (rS (slot p)).toLoadRect (View.loadsAt_vmem h_S1x256x4096))
  let _ : Vec F S256x256 .bf16 ← Prog.lift (.load (Memref.whole cc0_scratch0) (rQ p).toLoadRect (View.loadsAt_vmem h_S256x256))
  Prog.lift (.store (Memref.whole cc0_scratch0) (rQ p) (k0_pay3 a w) Finset.univ (View.stores_vmem h_S256x256 ((Memref.isWhole_whole _).storeExact_slice rfl _ (prQ p)) (fun _ => rfl)) (.inl rfl))
theorem prodP_eq (p : Fin 4) : prodP (F := F) A0 p
    = (Prog.lift (.waitDma2 (copyS (slot p)) (wB p) (wbB (slot p)) (View.wordExact_bits rfl) ((View.wordExact_bits rfl).reshape _ _)) >>= fun _ => mulP p) := rfl

theorem mul (p : Fin 4) (Kt : PUnit → sProp 𝕄) :
    iprop((∃ f : Buf (Elt F) ((wbB (slot p)).view.loc (c : Thread nD τ)), ⌜(wbB (slot p)).view.read (Elt F) f = wrow Wt c p⌝ ∗ mpt (wbB (slot p)) c fullShare f)
        ∗ anyW c ∗ mpt A0 c fullShare (X c) ∗ mptAny (partQ p) c)
      ⊢ iprop(((mptAny (wbB (slot p)) c ∗ anyW c ∗ mpt A0 c fullShare (X c) ∗ mpt (partQ p) c fullShare (partF X Wt c)) -∗ Kt ⟨⟩)
        -∗ wp frame (wpE (defs₀ (F := F)) 𝒱₀ c none) Set.univ (mulP (F := F) p) Kt) := by
  unfold mulP anyW
  simp only [Prog.lift, Prog.bind_op, Prog.bind_ret, Prog.pure_eq_ret]
  iintro ⟨⟨%f, %hf, Hw⟩, ⟨%g, Hg⟩, Ha, ⟨%fp, Hp⟩⟩
  iintro Hk
  iapply (wp_load_rect 𝒱₀ (c : Thread nD τ) none Set.univ (m := Memref.whole cc0_scratch3) (r := rS (slot p)) (S := (wbB (slot p)).view.set)
    (Finset.Subset.antisymm_iff.mp (View.set_reshape _ _).symm).1) $$ Hw
  iintro Hw
  iapply (wp_load_rect 𝒱₀ (c : Thread nD τ) none Set.univ (m := Memref.whole cc0_scratch4) (r := rS (slot p)) (S := Finset.univ) (Finset.subset_univ _)) $$ Hg
  iintro Hg
  iapply (wp_store 𝒱₀ (c : Thread nD τ) none Set.univ (m := Memref.whole cc0_scratch4) (r := rS (slot p)) (S := Finset.univ) (Finset.subset_univ _)) $$ Hg
  iintro Hg
  iapply (wp_load_rect 𝒱₀ (c : Thread nD τ) none Set.univ (m := A0) (r := rA) (S := A0.view.set) (by rw [View.set_whole]; exact Finset.subset_univ _)) $$ Ha
  iintro Ha
  iapply (wp_load_rect 𝒱₀ (c : Thread nD τ) none Set.univ (m := Memref.whole cc0_scratch4) (r := rS (slot p)) (S := Finset.univ) (Finset.subset_univ _)) $$ Hg
  iintro Hg
  iapply (wp_load_rect 𝒱₀ (c : Thread nD τ) none Set.univ (m := Memref.whole cc0_scratch0) (r := rQ p) (S := (partQ p).view.set) (Finset.Subset.refl _)) $$ Hp
  iintro Hp
  iapply (wp_store 𝒱₀ (c : Thread nD τ) none Set.univ (m := Memref.whole cc0_scratch0) (r := rQ p) (S := (partQ p).view.set) (Finset.Subset.refl _)) $$ Hp
  iintro Hp
  rw [wp_ret]
  imodintro
  iapply Hk
  isplitl [Hw]; · iexists f; iexact Hw
  isplitl [Hg]; · iexists _; iexact Hg
  isplitl [Ha]; · iexact Ha
  rw [pay3_eq X Wt c p (slot p) f hf g]
  iapply (Entails.of_eq (pointsTo_congr (prod_at X Wt c p fp))); iexact Hp

theorem src0 (k : Fin 8) : srcPt X Wt c (0, k) = mpt (partB k) c fullShare (partF X Wt c) := rfl

theorem prod (p : Fin 4) (s : Fin 2) (hs : slot p = s) (r : ℕ) (hr : r < 2) (hp : copyOf s r = p) (k k' : Fin 8) (hk : k.val = 2 * p.val) (hk' : k'.val = 2 * p.val + 1)
    (l : List PC) (Kt : PUnit → sProp 𝕄) :
    iprop(ctx X Wt K ∗ cred (tallyAt (copyCell c s) () NW) ∗ atPos ER (copyCell c s) r ∅ 0 ∗ owesE c l
        ∗ anyW c ∗ mpt A0 c fullShare (X c) ∗ mptAny (partQ p) c)
      ⊢ iprop(((atPos ER (copyCell c s) (r + 1) ∅ 0 ∗ reached ER (copyCell c s) (r + 1) ∗ owesE c l ∗ mptAny (wbB s) c ∗ mpt (wB p) c fullShare (Wt c)
          ∗ anyW c ∗ mpt A0 c fullShare (X c) ∗ srcPt X Wt c (0, k) ∗ srcPt X Wt c (0, k')) -∗ Kt ⟨⟩)
        -∗ wp frame (wpE (defs₀ (F := F)) 𝒱₀ c none) Set.univ (prodP (F := F) A0 p) Kt) := by
  subst hs
  rw [prodP_eq, wp_bind]
  unfold owesE
  simp only [Prog.lift]
  iintro ⟨#Hc, Hcr, Hat, ⟨%W, HO⟩, Hg, Ha, Hp⟩
  iintro Hk
  iapply (Rounds.wp_wait_rest_token 𝒱₀ ER (Rd X Wt) (c : Thread nD τ) none (κ := K (copyCell c (slot p)))
      (wpE_waitDma2_eq (src := wB p) (dst := wbB (slot p)) 𝒱₀ (c : Thread nD τ) none Set.univ) (Set.mem_univ _) () (O := owedL c l) (W := W) (R := r) (m := 0) (T := ∅)
      ((Nat.zero_add _).trans ((cr_wbB (slot p)).trans (expect_copy X Wt c (slot p) r hr).symm))) $$ [Hcr HO Hat]
  · isplitr; · iapply (ctx_copy X Wt K c (slot p)); iexact Hc
    isplitl [Hcr]; · rw [cr_wbB]; iexact Hcr
    isplitl [HO]; · iexact HO
    isplitr
    · iapply (mayWait c (.dma (copyS (slot p))) l 0 (by rw [kind_copy]; exact le_refl 0) (fun e' _ => by omega))
      iapply (ctx_lev X Wt K); iexact Hc
    iexact Hat
  iintro ⟨HO, Hat, #Hr, Hpay⟩
  ihave Hpay := (Entails.of_eq ((rest_copy X Wt c (slot p) r hr).trans (congrArg (copyPay Wt c (slot p)) hp))) $$ Hpay
  unfold copyPay
  icases Hpay with ⟨Hw, Hs⟩
  rw [wp_ret]
  imodintro
  iapply (mul X Wt c p) $$ [Hw Hg Ha Hp]
  · isplitl [Hw]; · iexact Hw
    isplitl [Hg]; · iexact Hg
    isplitl [Ha] <;> iassumption
  iintro ⟨Hw, Hg, Ha, Hp⟩
  ihave Hp' := (pair p k k' hk hk' c fullShare (partF X Wt c)).1 $$ Hp
  icases Hp' with ⟨Hp1, Hp2⟩
  iapply Hk
  isplitl [Hat]; · iexact Hat
  isplitr; · iexact Hr
  isplitl [HO]; · iexists _; iexact HO
  isplitl [Hw]; · iexact Hw
  isplitl [Hs]; · iexact Hs
  isplitl [Hg]; · iexact Hg
  isplitl [Ha]; · iexact Ha
  isplitl [Hp1]; · iapply (Entails.of_eq (src0 X Wt c k).symm); iexact Hp1
  iapply (Entails.of_eq (src0 X Wt c k').symm); iexact Hp2

/-! ## The barrier -/

theorem axes (Φ : PC → sProp 𝕄) : bigSep Finset.univ Φ = iprop(bigSep (along 0) Φ ∗ bigSep (along 1) Φ ∗ bigSep (along 2) Φ) := by
  rw [show (Finset.univ : Finset PC) = along 0 ∪ (along 1 ∪ along 2) from by decide +kernel,
    BI.bigSep_union (by decide +kernel), BI.bigSep_union (by decide +kernel)]
  rfl
theorem three (Φ : Fin 3 → sProp 𝕄) : bigSep Finset.univ Φ = iprop(Φ 0 ∗ Φ 1 ∗ Φ 2) :=
  bigSep_univ_eq_bigSepL [0, 1, 2] (by decide) (by decide) Φ
/-- What this device hands to its neighbour along an axis. -/
theorem give (a : Fin 3) : (bigSep (along a) fun e => iprop(landAny (F := F) (peer e c) c e ∗ reached ER (recvCell c e) 0) : sProp 𝕄) = barPay (nbr a c) a := by
  unfold barPay
  refine BI.bigSep_congr fun e he => ?_
  have hd : dir e.1 = a := (Finset.mem_filter.mp he).2
  rw [nbr_nbr, ← hd]
/-- What it is handed. -/
theorem take (a : Fin 3) : (barPay (F := F) c a : sProp 𝕄) = bigSep (along a) fun e => TL c e := by
  unfold barPay TL
  refine BI.bigSep_congr fun e he => ?_
  have hd : dir e.1 = a := (Finset.mem_filter.mp he).2
  rw [← hd]

/-- What a device owes at the start: its landings and its three signals. -/
def owed0 (c : Dev nD) : CellTallies nD τ sig Unit :=
  owedL c ords + tallyAt (barCell (nbr 2 c)) () 1 + tallyAt (barCell (nbr 1 c)) () 1 + tallyAt (barCell (nbr 0 c)) () 1

/-- The barrier's ghost state. -/
def B0 : sProp 𝕄 :=
  iprop(atPos ER (barCell c) 0 ∅ 0 ∗ (dutyTok ER (barCell (nbr 0 c)) 0 0 ∗ reached ER (barCell (nbr 0 c)) 0) ∗ (dutyTok ER (barCell (nbr 1 c)) 0 1 ∗ reached ER (barCell (nbr 1 c)) 0)
    ∗ (dutyTok ER (barCell (nbr 2 c)) 0 2 ∗ reached ER (barCell (nbr 2 c)) 0) ∗ cred (tallyAt (barCell c) () 3))

theorem barrier (dx dz dy : Dev nD) (hx : dx = nbr 0 c) (hz : dz = nbr 1 c) (hy : dy = nbr 2 c) (Kt : PUnit → sProp 𝕄) :
    iprop(ctx X Wt K ∗ B0 c ∗ (∃ W, owes (c : Thread nD τ) (owed0 c) W)
        ∗ bigSep Finset.univ (fun e => iprop(landAny (F := F) (peer e c) c e ∗ reached ER (recvCell c e) 0)))
      ⊢ iprop(((atPos ER (barCell c) 1 ∅ 0 ∗ owesE c ords ∗ bigSep Finset.univ (fun e => TL (F := F) c e)) -∗ Kt ⟨⟩)
        -∗ wp frame (wpE (defs₀ (F := F)) 𝒱₀ c none) Set.univ (barP (F := F) dx dz dy) Kt) := by
  subst hx hz hy
  unfold B0 owesE barP
  rw [axes, axes, give, give, give]
  simp only [semSignalWord, semWaitWord, Prog.lift, Prog.bind_op, Prog.bind_ret, Prog.pure_eq_ret]
  iintro ⟨#Hc, ⟨Hat, ⟨Ht0, #Hr0⟩, ⟨Ht1, #Hr1⟩, ⟨Ht2, #Hr2⟩, Hcr⟩, ⟨%W, HO⟩, Hg0, Hg1, Hg2⟩
  iintro Hk
  iapply (Rounds.wp_signal 𝒱₀ ER (Rd X Wt) (c : Thread nD τ) none (dst := (nbr 0 c : Thread nD τ)) (sem := barS) (r := 0) (d := 0) (k' := 1) (κ := K (barCell (nbr 0 c)))
      (by rw [duties_bar]; exact Finset.mem_univ _) (amount_bar X Wt (nbr 0 c) 0 0) ()
      (owedL c ords + tallyAt (barCell (nbr 2 c)) () 1 + tallyAt (barCell (nbr 1 c)) () 1) rfl) $$ [HO Ht0 Hg0]
  · isplitr; · iapply (ctx_bar X Wt K (nbr 0 c)); iexact Hc
    isplitl [HO]; · iexact HO
    isplitl [Ht0]; · iexact Ht0
    isplitl [Hg0]; · rw [payload_bar]; iexact Hg0
    iexact Hr0
  iintro HO
  iapply (Rounds.wp_signal 𝒱₀ ER (Rd X Wt) (c : Thread nD τ) none (dst := (nbr 1 c : Thread nD τ)) (sem := barS) (r := 0) (d := 1) (k' := 1) (κ := K (barCell (nbr 1 c)))
      (by rw [duties_bar]; exact Finset.mem_univ _) (amount_bar X Wt (nbr 1 c) 0 1) ()
      (owedL c ords + tallyAt (barCell (nbr 2 c)) () 1) rfl) $$ [HO Ht1 Hg1]
  · isplitr; · iapply (ctx_bar X Wt K (nbr 1 c)); iexact Hc
    isplitl [HO]; · iexact HO
    isplitl [Ht1]; · iexact Ht1
    isplitl [Hg1]; · rw [payload_bar]; iexact Hg1
    iexact Hr1
  iintro HO
  iapply (Rounds.wp_signal 𝒱₀ ER (Rd X Wt) (c : Thread nD τ) none (dst := (nbr 2 c : Thread nD τ)) (sem := barS) (r := 0) (d := 2) (k' := 1) (κ := K (barCell (nbr 2 c)))
      (by rw [duties_bar]; exact Finset.mem_univ _) (amount_bar X Wt (nbr 2 c) 0 2) ()
      (owedL c ords) rfl) $$ [HO Ht2 Hg2]
  · isplitr; · iapply (ctx_bar X Wt K (nbr 2 c)); iexact Hc
    isplitl [HO]; · iexact HO
    isplitl [Ht2]; · iexact Ht2
    isplitl [Hg2]; · rw [payload_bar]; iexact Hg2
    iexact Hr2
  iintro HO
  iapply (Rounds.wp_wait_rest_token 𝒱₀ ER (Rd X Wt) (c : Thread nD τ) none (κ := K (barCell c)) (k' := 3)
      (wpE_semWait_eq 𝒱₀ (c : Thread nD τ) none Set.univ) (Set.mem_univ _) () (O := owedL c ords) (R := 0) (m := 0) (T := ∅)
      ((Nat.zero_add 3).trans (expect_bar X Wt c).symm)) $$ [Hcr HO Hat]
  · isplitr; · iapply (ctx_bar X Wt K c); iexact Hc
    isplitl [Hcr]; · iexact Hcr
    isplitl [HO]; · iexact HO
    isplitr
    · iapply (mayWait c (.reg barS) ords 1 (by rw [kind_bar]; exact le_refl 1) (fun e' _ => by omega))
      iapply (ctx_lev X Wt K); iexact Hc
    iexact Hat
  iintro ⟨HO, Hat, -, Hpay⟩
  ihave Hpay := (Entails.of_eq ((rest_bar X Wt c).trans (three _))) $$ Hpay
  icases Hpay with ⟨Hp0, Hp1, Hp2⟩
  rw [wp_ret]
  imodintro
  iapply Hk
  isplitl [Hat]; · iexact Hat
  isplitl [HO]; · iexists _; iexact HO
  isplitl [Hp0]; · iapply (Entails.of_eq (take c 0)); iexact Hp0
  isplitl [Hp1]; · iapply (Entails.of_eq (take c 1)); iexact Hp1
  iapply (Entails.of_eq (take c 2)); iexact Hp2

/-! ## The result -/

/-- The result, right on the row blocks of a list. -/
def outSt (done : List ℕ) : sProp 𝕄 :=
  iprop(∃ f : Vec F S1024x1024 .f32, ⌜∀ i : S1024x1024.Idx, (∃ o ∈ done, o ≤ (i 0).val ∧ (i 0).val < o + 256) → f i = outF X Wt c i⌝ ∗ mpt A2 c fullShare f)

theorem set_access {o : ℕ} (h : RowOk o 256) : (A2.access (rR h)).set = (rR h).set := View.set_slice_whole _ _

theorem out {o : ℕ} (h : RowOk o 256) (done : List ℕ) (q : PosShare TreeShare) (Kt : PUnit → sProp 𝕄) :
    iprop(bigSep Finset.univ (fun k : Fin 8 => mpt (gatB h k) c q (gatF X Wt c)) ∗ outSt X Wt c done)
      ⊢ iprop(((bigSep Finset.univ (fun k : Fin 8 => mpt (gatB h k) c q (gatF X Wt c)) ∗ outSt X Wt c (o :: done)) -∗ Kt ⟨⟩)
        -∗ wp frame (wpE (defs₀ (F := F)) 𝒱₀ c none) Set.univ (outP (F := F) A2 h) Kt) := by
  rw [← row h c q (gatF X Wt c)]
  unfold outP outSt
  simp only [Prog.lift, Prog.bind_op, Prog.bind_ret, Prog.pure_eq_ret]
  iintro ⟨Hg, ⟨%f, %hf, Ho⟩⟩
  iintro Hk
  iapply (wp_load_rect 𝒱₀ (c : Thread nD τ) none Set.univ (m := Memref.whole cc0_scratch2) (r := rR h) (S := (gatR h).view.set) (Finset.Subset.refl _)) $$ Hg
  iintro Hg
  iapply (wp_load_rect 𝒱₀ (c : Thread nD τ) none Set.univ (m := A2) (r := rR h) (S := A2.view.set) (by rw [View.set_whole]; exact Finset.subset_univ _)) $$ Ho
  iintro Ho
  iapply (wp_store 𝒱₀ (c : Thread nD τ) none Set.univ (m := A2) (r := rR h) (S := A2.view.set) (by rw [View.set_whole]; exact Finset.subset_univ _)) $$ Ho
  iintro Ho
  rw [wp_ret]
  imodintro
  iapply Hk
  isplitl [Hg]; · iexact Hg
  iexists _
  isplitr
  · ipureintro
    intro i hi
    by_cases hm : i ∈ (A2.access (rR h)).set
    · exact out_at X Wt c h f i hm
    · refine (View.write_of_not_mem _ _ _ hm).trans (hf i ?_)
      obtain ⟨o', ho', hi'⟩ := hi
      rcases List.mem_cons.mp ho' with rfl | ho'
      · exact absurd (by rw [set_access]; exact (mem_rR h i).mpr hi') hm
      · exact ⟨o', ho', hi'⟩
  iexact Ho

end Blocks

end Cert.KernelIdeal.Blocks

end
-- ==== Proof.Main.lean ====
/- The kernel's body on one device, step after step. -/
module

public import proofs.«01_k».proof.Proof.Blocks

@[expose] public section

set_option backward.proofsInPublic true

noncomputable section

namespace Cert.KernelIdeal.Main

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps Cert.KernelIdeal.Proto Cert.KernelIdeal.Pieces Cert.KernelIdeal.Moves
open Cert.KernelIdeal.Chunks Cert.KernelIdeal.Blocks

variable {F : FTy → Type} [FloatOps F]

local notation "𝕄" => MT nD τ sig Unit (Elt F) ℕ UU ℕ

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem cons_sep (k : Fin 8) (ks : List (Fin 8)) (Φ : Fin 8 → sProp 𝕄) : bigSepL (k :: ks) Φ = iprop(Φ k ∗ bigSepL ks Φ) := bigSepL_cons k ks Φ

/-- The transfers chunk by chunk. -/
theorem chunkwise (Φ : PC → sProp 𝕄) : bigSep Finset.univ Φ
    = bigSep Finset.univ fun k : Fin 8 => iprop(Φ (0, k) ∗ Φ (1, k) ∗ Φ (2, k) ∗ Φ (3, k) ∗ Φ (4, k)) := by
  rw [BI.bigSep_univ_prod, BI.bigSep_univ_comm]
  exact BI.bigSep_congr fun k _ => five fun ph => Φ (ph, k)

section Main

variable (X : (c : Dev nD) → Vec F S256x4096 .bf16) (Wt : (c : Dev nD) → Vec F S1024x4096 .f32)
variable (K : GSem nD τ sig → ℕ) (c : Dev nD)

/-- What is owed before the send number `n`. -/
abbrev owesN (n : ℕ) : sProp 𝕄 := owesE c (ords.drop n)

/-! ## Groups of steps, each before any rest -/

theorem startX (k : Fin 8) (n : ℕ) (hn : ords.drop n = (0, k) :: ords.drop (n + 1)) (Kt : PUnit → sProp 𝕄) :
    iprop(ctx X Wt K ∗ C0 c k ∗ srcPt X Wt c (0, k) ∗ owesN c n)
      ⊢ iprop(((C1 c k ∗ owesN c (n + 1)) -∗ Kt ⟨⟩)
        -∗ wp frame (wpE (defs₀ (F := F)) 𝒱₀ c none) Set.univ (sendXP (F := F) (geoOf c).dx k) Kt) := by
  unfold C0 C1 owesN
  rw [hn]
  iintro ⟨#Hc, ⟨Ht, Hr⟩, Hs, HO⟩
  iintro Hk
  iapply (sendX X Wt K c k (ords.drop (n + 1))) $$ [Ht Hs HO]
  · isplitr; · iexact Hc
    isplitl [Ht]; · iexact Ht
    isplitl [Hs] <;> iassumption
  iintro ⟨Ht, HO⟩
  iapply Hk
  isplitr [HO]
  · isplitl [Ht] <;> iassumption
  iexact HO

/-- A product and the sends of its two chunks. -/
theorem prodX (p : Fin 4) (s : Fin 2) (hs : slot p = s) (r : ℕ) (hr : r < 2) (hp : copyOf s r = p) (k k' : Fin 8) (hk : k.val = 2 * p.val) (hk' : k'.val = 2 * p.val + 1)
    (n : ℕ) (hn : ords.drop n = (0, k) :: ords.drop (n + 1)) (hn' : ords.drop (n + 1) = (0, k') :: ords.drop (n + 1 + 1)) (rest : Pg F) (Kt : PUnit → sProp 𝕄) :
    iprop(ctx X Wt K ∗ (cred (tallyAt (copyCell c s) () NW) ∗ atPos ER (copyCell c s) r ∅ 0) ∗ owesN c n
        ∗ (anyW c ∗ mpt A0 c fullShare (X c)) ∗ mptAny (partQ p) c ∗ C0 c k ∗ C0 c k')
      ⊢ iprop((((atPos ER (copyCell c s) (r + 1) ∅ 0 ∗ reached ER (copyCell c s) (r + 1) ∗ mptAny (wbB s) c) ∗ owesN c (n + 1 + 1) ∗ mpt (wB p) c fullShare (Wt c)
          ∗ (anyW c ∗ mpt A0 c fullShare (X c)) ∗ C1 c k ∗ C1 c k')
            -∗ wp frame (wpE (defs₀ (F := F)) 𝒱₀ c none) Set.univ rest Kt)
        -∗ wp frame (wpE (defs₀ (F := F)) 𝒱₀ c none) Set.univ (do prodP A0 p; sendXP (geoOf c).dx k; sendXP (geoOf c).dx k'; rest) Kt) := by
  rw [wp_bind]
  iintro ⟨#Hc, ⟨Hcr, Hat⟩, HO, ⟨Hg, Ha⟩, Hp, H1, H2⟩
  iintro Hk
  iapply (prod X Wt K c p s hs r hr hp k k' hk hk' (ords.drop n)) $$ [Hcr Hat HO Hg Ha Hp]
  · isplitr; · iexact Hc
    isplitl [Hcr]; · iexact Hcr
    isplitl [Hat]; · iexact Hat
    isplitl [HO]; · iexact HO
    isplitl [Hg]; · iexact Hg
    isplitl [Ha] <;> iassumption
  iintro ⟨Hat, Hr, HO, Hw, HW, Hg, Ha, Hs1, Hs2⟩
  rw [wp_bind]
  iapply (startX X Wt K c k n hn) $$ [HO H1 Hs1]
  · isplitr; · iexact Hc
    isplitl [H1]; · iexact H1
    isplitl [Hs1]; · iexact Hs1
    iexact HO
  iintro ⟨H1, HO⟩
  rw [wp_bind]
  iapply (startX X Wt K c k' (n + 1) hn') $$ [HO H2 Hs2]
  · isplitr; · iexact Hc
    isplitl [H2]; · iexact H2
    isplitl [Hs2]; · iexact Hs2
    iexact HO
  iintro ⟨H2, HO⟩
  iapply Hk
  isplitl [Hat Hr Hw]
  · isplitl [Hat]; · iexact Hat
    isplitl [Hr] <;> iassumption
  isplitl [HO]; · iexact HO
  isplitl [HW]; · iexact HW
  isplitl [Hg Ha]; · isplitl [Hg] <;> iassumption
  isplitl [H1] <;> iassumption

/-- Two reductions. -/
theorem reduce2 (k k' : Fin 8) (n : ℕ) (hn : ords.drop n = (1, k) :: (2, k) :: ords.drop (n + 2)) (hn' : ords.drop (n + 2) = (1, k') :: (2, k') :: ords.drop (n + 2 + 2))
    (hl : ∀ e' ∈ ords.drop n, ord (0, k) < ord e') (hl' : ∀ e' ∈ ords.drop (n + 2), ord (0, k') < ord e') (rest : Pg F) (Kt : PUnit → sProp 𝕄) :
    iprop(ctx X Wt K ∗ C1 c k ∗ C1 c k' ∗ owesN c n)
      ⊢ iprop(((C2 X Wt c k ∗ C2 X Wt c k' ∗ owesN c (n + 2 + 2)) -∗ wp frame (wpE (defs₀ (F := F)) 𝒱₀ c none) Set.univ rest Kt)
        -∗ wp frame (wpE (defs₀ (F := F)) 𝒱₀ c none) Set.univ (do reduceP (geoOf c) k; reduceP (geoOf c) k'; rest) Kt) := by
  rw [wp_bind]
  unfold owesN
  rw [hn]
  iintro ⟨#Hc, H1, H2, HO⟩
  iintro Hk
  iapply (reduce X Wt K c k (ords.drop (n + 2)) (hn ▸ hl)) $$ [H1 HO]
  · isplitr; · iexact Hc
    isplitl [H1] <;> iassumption
  iintro ⟨H1, HO⟩
  rw [hn', wp_bind]
  iapply (reduce X Wt K c k' (ords.drop (n + 2 + 2)) (hn' ▸ hl')) $$ [H2 HO]
  · isplitr; · iexact Hc
    isplitl [H2] <;> iassumption
  iintro ⟨H2, HO⟩
  iapply Hk
  isplitl [H1]; · iexact H1
  isplitl [H2] <;> iassumption

/-- A chunk once forwarded. -/
def CF (k : Fin 8) : sProp 𝕄 := iprop(C3 X Wt c k ∗ CO X Wt c k ∗ CZ X Wt c k ∗ CY X Wt c k)

/-- Two forwardings. -/
theorem forward2 (k k' : Fin 8) (n : ℕ) (hn : ords.drop n = (4, k) :: (3, k) :: ords.drop (n + 2)) (hn' : ords.drop (n + 2) = (4, k') :: (3, k') :: ords.drop (n + 2 + 2))
    (hl : ∀ e' ∈ ords.drop n, ord (1, k) < ord e' ∧ ord (2, k) < ord e') (hl' : ∀ e' ∈ ords.drop (n + 2), ord (1, k') < ord e' ∧ ord (2, k') < ord e')
    (rest : Pg F) (Kt : PUnit → sProp 𝕄) :
    iprop(ctx X Wt K ∗ C2 X Wt c k ∗ C2 X Wt c k' ∗ owesN c n)
      ⊢ iprop(((CF X Wt c k ∗ CF X Wt c k' ∗ owesN c (n + 2 + 2)) -∗ wp frame (wpE (defs₀ (F := F)) 𝒱₀ c none) Set.univ rest Kt)
        -∗ wp frame (wpE (defs₀ (F := F)) 𝒱₀ c none) Set.univ (do forwardP (geoOf c) k; forwardP (geoOf c) k'; rest) Kt) := by
  rw [hn] at hl
  rw [hn'] at hl'
  rw [wp_bind]
  unfold owesN CF
  rw [hn]
  iintro ⟨#Hc, H1, H2, HO⟩
  iintro Hk
  iapply (forward X Wt K c k (ords.drop (n + 2)) (fun e' he => (hl e' he).1) (fun e' he => (hl e' (List.mem_cons_of_mem _ he)).2)) $$ [H1 HO]
  · isplitr; · iexact Hc
    isplitl [H1] <;> iassumption
  iintro ⟨H1, HO1, HZ1, HY1, HO⟩
  rw [hn', wp_bind]
  iapply (forward X Wt K c k' (ords.drop (n + 2 + 2)) (fun e' he => (hl' e' he).1) (fun e' he => (hl' e' (List.mem_cons_of_mem _ he)).2)) $$ [H2 HO]
  · isplitr; · iexact Hc
    isplitl [H2] <;> iassumption
  iintro ⟨H2, HO2, HZ2, HY2, HO⟩
  iapply Hk
  isplitl [H1 HO1 HZ1 HY1]
  · isplitl [H1]; · iexact H1
    isplitl [HO1]; · iexact HO1
    isplitl [HZ1] <;> iassumption
  isplitr [HO]
  · isplitl [H2]; · iexact H2
    isplitl [HO2]; · iexact HO2
    isplitl [HZ2] <;> iassumption
  iexact HO

/-- Steps for the chunks of a list, before a rest. -/
def each (f : Fin 8 → Pg F) (rest : Pg F) : List (Fin 8) → Pg F
  | [] => rest
  | k :: ks => f k >>= fun _ => each f rest ks

/-- The last waits of the chunks of a list. -/
theorem lasts (ks : List (Fin 8)) (rest : Pg F) (Kt : PUnit → sProp 𝕄) :
    iprop(ctx X Wt K ∗ bigSepL ks (C3 X Wt c) ∗ owesE c [])
      ⊢ iprop(((bigSepL ks (fun k => iprop(C4 X Wt c k ∗ CR X Wt c k)) ∗ owesE c []) -∗ wp frame (wpE (defs₀ (F := F)) 𝒱₀ c none) Set.univ rest Kt)
        -∗ wp frame (wpE (defs₀ (F := F)) 𝒱₀ c none) Set.univ (each (lastP (geoOf c)) rest ks) Kt) := by
  induction ks with
  | nil =>
    unfold each
    iintro ⟨-, He, HO⟩
    iintro Hk
    iapply Hk
    isplitl [He]; · iexact He
    iexact HO
  | cons k ks ih =>
    unfold each
    rw [cons_sep, cons_sep, wp_bind]
    iintro ⟨#Hc, ⟨H, Hs⟩, HO⟩
    iintro Hk
    iapply (last X Wt K c k) $$ [H HO]
    · isplitr; · iexact Hc
      isplitl [H] <;> iassumption
    iintro ⟨H, HR, HO⟩
    iapply ih $$ [Hs HO]
    · isplitr; · iexact Hc
      isplitl [Hs] <;> iassumption
    iintro ⟨Hs, HO⟩
    iapply Hk
    isplitr [HO]
    · isplitl [H HR]
      · isplitl [H] <;> iassumption
      iexact Hs
    iexact HO

/-! ## The body -/

/-- A slot's ghost state at the start, with the slot. -/
def S0 (s : Fin 2) : sProp 𝕄 :=
  iprop(atPos ER (copyCell c s) 0 ∅ 0 ∗ dutyTok ER (copyCell c s) 0 0 ∗ dutyTok ER (copyCell c s) 1 0 ∗ reached ER (copyCell c s) 0 ∗ mptAny (F := F) (wbB s) c)
/-- At the end. -/
def S2 (s : Fin 2) : sProp 𝕄 := iprop(atPos ER (copyCell c s) 2 ∅ 0 ∗ mptAny (F := F) (wbB s) c)
/-- The row blocks of the weights. -/
def rowsW : sProp 𝕄 := bigSep Finset.univ fun p : Fin 4 => mpt (wB p) c fullShare (Wt c)

def pre : sProp 𝕄 :=
  iprop(ctx X Wt K ∗ B0 c ∗ (∃ W, owes (c : Thread nD τ) (owed0 c) W)
    ∗ bigSep Finset.univ (fun e : PC => iprop(landAny (F := F) (peer e c) c e ∗ reached ER (recvCell c e) 0))
    ∗ bigSep Finset.univ (TI c)
    ∗ (bigSep Finset.univ fun k : Fin 8 => mptAny (F := F) (gatB (geoOf c).hown k) c)
    ∗ (S0 c 0 ∗ S0 c 1) ∗ rowsW Wt c ∗ (anyW c ∗ mpt A0 c fullShare (X c))
    ∗ (bigSep Finset.univ fun p : Fin 4 => mptAny (F := F) (partQ p) c) ∗ outSt X Wt c [])
def post : sProp 𝕄 :=
  iprop(atPos ER (barCell c) 1 ∅ 0 ∗ owesE c []
    ∗ (bigSep Finset.univ (C4 X Wt c) ∗ bigSep Finset.univ (CO X Wt c) ∗ bigSep Finset.univ (CZ X Wt c) ∗ bigSep Finset.univ (CY X Wt c) ∗ bigSep Finset.univ (CR X Wt c))
    ∗ (S2 c 0 ∗ S2 c 1) ∗ rowsW Wt c ∗ (anyW c ∗ mpt A0 c fullShare (X c))
    ∗ outSt X Wt c [(geoOf c).rd, (geoOf c).ry, (geoOf c).rz, (geoOf c).own])

/-- After the barrier every transfer of every chunk is ready. -/
theorem ready : iprop(bigSep Finset.univ (TI c) ∗ bigSep Finset.univ (fun e => TL (F := F) c e) ∗ (bigSep Finset.univ fun k : Fin 8 => mptAny (F := F) (gatB (geoOf c).hown k) c))
    ⊢ (bigSep Finset.univ (C0 c) : sProp 𝕄) := by
  refine (sep_assoc.2).trans ?_
  rw [← BI.bigSep_sep', chunkwise, ← BI.bigSep_sep']
  refine BI.bigSep_mono fun k _ => ?_
  unfold C0 T0
  show iprop(((TI c (0, k) ∗ TL c (0, k)) ∗ (TI c (1, k) ∗ TL c (1, k)) ∗ (TI c (2, k) ∗ TL c (2, k)) ∗ (TI c (3, k) ∗ TL c (3, k)) ∗ TI c (4, k) ∗ TL c (4, k))
    ∗ mptAny (F := F) (gatB (geoOf c).hown k) c) ⊢ iprop(_)
  iintro ⟨⟨H0, H1, H2, H3, H4⟩, Hg⟩
  isplitl [H0]; · iexact H0
  isplitl [H1]; · iexact H1
  isplitl [H2]; · iexact H2
  isplitl [H3]; · iexact H3
  isplitl [H4] <;> iassumption

/-- What all chunks hold once forwarded. -/
theorem forwarded : bigSep Finset.univ (CF X Wt c) = iprop(bigSep Finset.univ (C3 X Wt c) ∗ bigSep Finset.univ (CO X Wt c) ∗ bigSep Finset.univ (CZ X Wt c) ∗ bigSep Finset.univ (CY X Wt c)) := by
  unfold CF
  rw [BI.bigSep_sep', BI.bigSep_sep', BI.bigSep_sep']

theorem main (Kt : PUnit → sProp 𝕄) :
    pre X Wt K c ⊢ iprop((post X Wt c -∗ Kt ⟨⟩) -∗ wp frame (wpE (defs₀ (F := F)) 𝒱₀ c none) Set.univ (mainP (F := F) (geoOf c) A0 A2) Kt) := by
  unfold pre mainP S0 rowsW
  rw [four, four]
  iintro ⟨#Hc, HB, HO, HL, HI, HG, ⟨⟨Hat0, Ht00, Ht01, #Hr0, Hw0⟩, ⟨Hat1, Ht10, Ht11, #Hr1, Hw1⟩⟩, ⟨HW0, HW1, HW2, HW3⟩, HA, ⟨HP0, HP1, HP2, HP3⟩, HR⟩
  iintro Hk
  rw [wp_bind]
  iapply (copy X Wt K c 0 0 rfl 0 (by decide) rfl) $$ [Ht00 Hw0 HW0]
  · isplitr; · iexact Hc
    isplitl [Ht00]; · iexact Ht00
    isplitr; · iexact Hr0
    isplitl [Hw0] <;> iassumption
  iintro Hcr0
  rw [wp_bind]
  iapply (copy X Wt K c 1 1 rfl 0 (by decide) rfl) $$ [Ht10 Hw1 HW1]
  · isplitr; · iexact Hc
    isplitl [Ht10]; · iexact Ht10
    isplitr; · iexact Hr1
    isplitl [Hw1] <;> iassumption
  iintro Hcr1
  rw [wp_bind]
  iapply (barrier X Wt K c (geoOf c).dx (geoOf c).dz (geoOf c).dy rfl rfl rfl) $$ [HB HO HL]
  · isplitr; · iexact Hc
    isplitl [HB]; · iexact HB
    isplitl [HO] <;> iassumption
  iintro ⟨HB, HO, HL⟩
  ihave HO := (show owesE (F := F) c ords ⊢ owesN c 0 from .rfl) $$ HO
  ihave HC := (ready c) $$ [HI HL HG]
  · isplitl [HI]; · iexact HI
    isplitl [HL] <;> iassumption
  ihave HC := (Entails.of_eq (eight _)) $$ HC
  icases HC with ⟨H0, H1, H2, H3, H4, H5, H6, H7⟩
  iapply (prodX X Wt K c 0 0 rfl 0 (by decide) rfl 0 1 rfl rfl 0 rfl rfl) $$ [Hcr0 Hat0 HO HA HP0 H0 H1]
  · isplitr; · iexact Hc
    isplitl [Hcr0 Hat0]; · isplitl [Hcr0] <;> iassumption
    isplitl [HO]; · iexact HO
    isplitl [HA]; · iexact HA
    isplitl [HP0]; · iexact HP0
    isplitl [H0] <;> iassumption
  iintro ⟨⟨Hat0, #Hr0, Hw0⟩, HO, HW0, HA, H0, H1⟩
  rw [wp_bind]
  iapply (copy X Wt K c 2 0 rfl 1 (by decide) rfl) $$ [Ht01 Hw0 HW2]
  · isplitr; · iexact Hc
    isplitl [Ht01]; · iexact Ht01
    isplitr; · iexact Hr0
    isplitl [Hw0] <;> iassumption
  iintro Hcr0
  iapply (prodX X Wt K c 1 1 rfl 0 (by decide) rfl 2 3 rfl rfl 2 rfl rfl) $$ [Hcr1 Hat1 HO HA HP1 H2 H3]
  · isplitr; · iexact Hc
    isplitl [Hcr1 Hat1]; · isplitl [Hcr1] <;> iassumption
    isplitl [HO]; · iexact HO
    isplitl [HA]; · iexact HA
    isplitl [HP1]; · iexact HP1
    isplitl [H2] <;> iassumption
  iintro ⟨⟨Hat1, #Hr1, Hw1⟩, HO, HW1, HA, H2, H3⟩
  rw [wp_bind]
  iapply (copy X Wt K c 3 1 rfl 1 (by decide) rfl) $$ [Ht11 Hw1 HW3]
  · isplitr; · iexact Hc
    isplitl [Ht11]; · iexact Ht11
    isplitr; · iexact Hr1
    isplitl [Hw1] <;> iassumption
  iintro Hcr1
  iapply (reduce2 X Wt K c 0 1 4 rfl rfl (by decide +kernel) (by decide +kernel)) $$ [H0 H1 HO]
  · isplitr; · iexact Hc
    isplitl [H0]; · iexact H0
    isplitl [H1] <;> iassumption
  iintro ⟨H0, H1, HO⟩
  iapply (prodX X Wt K c 2 0 rfl 1 (by decide) rfl 4 5 rfl rfl 8 rfl rfl) $$ [Hcr0 Hat0 HO HA HP2 H4 H5]
  · isplitr; · iexact Hc
    isplitl [Hcr0 Hat0]; · isplitl [Hcr0] <;> iassumption
    isplitl [HO]; · iexact HO
    isplitl [HA]; · iexact HA
    isplitl [HP2]; · iexact HP2
    isplitl [H4] <;> iassumption
  iintro ⟨⟨Hat0, #Hr0, Hw0⟩, HO, HW2, HA, H4, H5⟩
  iapply (reduce2 X Wt K c 2 3 10 rfl rfl (by decide +kernel) (by decide +kernel)) $$ [H2 H3 HO]
  · isplitr; · iexact Hc
    isplitl [H2]; · iexact H2
    isplitl [H3] <;> iassumption
  iintro ⟨H2, H3, HO⟩
  iapply (forward2 X Wt K c 0 1 14 rfl rfl (by decide +kernel) (by decide +kernel)) $$ [H0 H1 HO]
  · isplitr; · iexact Hc
    isplitl [H0]; · iexact H0
    isplitl [H1] <;> iassumption
  iintro ⟨H0, H1, HO⟩
  iapply (prodX X Wt K c 3 1 rfl 1 (by decide) rfl 6 7 rfl rfl 18 rfl rfl) $$ [Hcr1 Hat1 HO HA HP3 H6 H7]
  · isplitr; · iexact Hc
    isplitl [Hcr1 Hat1]; · isplitl [Hcr1] <;> iassumption
    isplitl [HO]; · iexact HO
    isplitl [HA]; · iexact HA
    isplitl [HP3]; · iexact HP3
    isplitl [H6] <;> iassumption
  iintro ⟨⟨Hat1, #Hr1, Hw1⟩, HO, HW3, HA, H6, H7⟩
  iapply (reduce2 X Wt K c 4 5 20 rfl rfl (by decide +kernel) (by decide +kernel)) $$ [H4 H5 HO]
  · isplitr; · iexact Hc
    isplitl [H4]; · iexact H4
    isplitl [H5] <;> iassumption
  iintro ⟨H4, H5, HO⟩
  iapply (forward2 X Wt K c 2 3 24 rfl rfl (by decide +kernel) (by decide +kernel)) $$ [H2 H3 HO]
  · isplitr; · iexact Hc
    isplitl [H2]; · iexact H2
    isplitl [H3] <;> iassumption
  iintro ⟨H2, H3, HO⟩
  iapply (reduce2 X Wt K c 6 7 28 rfl rfl (by decide +kernel) (by decide +kernel)) $$ [H6 H7 HO]
  · isplitr; · iexact Hc
    isplitl [H6]; · iexact H6
    isplitl [H7] <;> iassumption
  iintro ⟨H6, H7, HO⟩
  iapply (forward2 X Wt K c 4 5 32 rfl rfl (by decide +kernel) (by decide +kernel)) $$ [H4 H5 HO]
  · isplitr; · iexact Hc
    isplitl [H4]; · iexact H4
    isplitl [H5] <;> iassumption
  iintro ⟨H4, H5, HO⟩
  iapply (forward2 X Wt K c 6 7 36 rfl rfl (by decide +kernel) (by decide +kernel)) $$ [H6 H7 HO]
  · isplitr; · iexact Hc
    isplitl [H6]; · iexact H6
    isplitl [H7] <;> iassumption
  iintro ⟨H6, H7, HO⟩
  ihave HC := (Entails.of_eq (((eight (CF X Wt c)).symm).trans (forwarded X Wt c))) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  icases HC with ⟨HC, HCO, HCZ, HCY⟩
  unfold CO CZ CY
  rw [wp_bind]
  iapply (out X Wt c (geoOf c).hown [] fullShare) $$ [HCO HR]
  · isplitl [HCO]; · iexact HCO
    iexact HR
  iintro ⟨HCO, HR⟩
  rw [wp_bind]
  iapply (out X Wt c (geoOf c).hrz [(geoOf c).own] Proto.h1) $$ [HCZ HR]
  · isplitl [HCZ]; · iexact HCZ
    iexact HR
  iintro ⟨HCZ, HR⟩
  rw [wp_bind]
  iapply (out X Wt c (geoOf c).hry [(geoOf c).rz, (geoOf c).own] Proto.h1) $$ [HCY HR]
  · isplitl [HCY]; · iexact HCY
    iexact HR
  iintro ⟨HCY, HR⟩
  ihave HC := (Entails.of_eq (bigSep_univ_eq_bigSepL [0, 1, 2, 3, 4, 5, 6, 7] (by decide) (by decide) (C3 X Wt c))) $$ HC
  iapply (lasts X Wt K c [0, 1, 2, 3, 4, 5, 6, 7] (outP A2 (geoOf c).hrd)) $$ [HC HO]
  · isplitr; · iexact Hc
    isplitl [HC]; · iexact HC
    iexact HO
  iintro ⟨HC, HO⟩
  ihave HC := (Entails.of_eq ((bigSep_univ_eq_bigSepL [0, 1, 2, 3, 4, 5, 6, 7] (by decide) (by decide) _).symm.trans (BI.bigSep_sep' _ _ _))) $$ HC
  icases HC with ⟨HC, HCR⟩
  unfold CR
  iapply (out X Wt c (geoOf c).hrd [(geoOf c).ry, (geoOf c).rz, (geoOf c).own] fullShare) $$ [HCR HR]
  · isplitl [HCR]; · iexact HCR
    iexact HR
  iintro ⟨HCR, HR⟩
  iapply Hk
  unfold post CO CZ CY CR S2 rowsW
  rw [four]
  isplitl [HB]; · iexact HB
  isplitl [HO]; · iexact HO
  isplitl [HC HCO HCZ HCY HCR]
  · isplitl [HC]; · iexact HC
    isplitl [HCO]; · iexact HCO
    isplitl [HCZ]; · iexact HCZ
    isplitl [HCY] <;> iassumption
  isplitl [Hat0 Hat1 Hw0 Hw1]
  · isplitl [Hat0 Hw0]
    · isplitl [Hat0] <;> iassumption
    isplitl [Hat1] <;> iassumption
  isplitl [HW0 HW1 HW2 HW3]
  · isplitl [HW0]; · iexact HW0
    isplitl [HW1]; · iexact HW1
    isplitl [HW2] <;> iassumption
  isplitl [HA]; · iexact HA
  iexact HR

end Main

end Cert.KernelIdeal.Main

end
-- ==== Proof.Cuts.lean ====
/- The buffers cut into the pieces the body starts from, and put together from those it ends with. -/
module

public import proofs.«01_k».proof.Proof.Main

@[expose] public section

set_option backward.proofsInPublic true

noncomputable section

namespace Cert.KernelIdeal.Cuts

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps Cert.KernelIdeal.Proto Cert.KernelIdeal.Pieces Cert.KernelIdeal.Moves
open Cert.KernelIdeal.Chunks Cert.KernelIdeal.Blocks Cert.KernelIdeal.Main

variable {F : FTy → Type} [FloatOps F]

local notation "𝕄" => MT nD τ sig Unit (Elt F) ℕ UU ℕ

/-- Conjunctions over a type, member by member. -/
theorem mono {T : Type} [Fintype T] {Φ Ψ : T → sProp 𝕄} (h : ∀ t, Φ t ⊢ Ψ t) : bigSep Finset.univ Φ ⊢ bigSep Finset.univ Ψ := BI.bigSep_mono fun t _ => h t
theorem zip3 {T : Type} [Fintype T] (A B C : T → sProp 𝕄) :
    bigSep Finset.univ (fun t => iprop(A t ∗ B t ∗ C t)) = iprop(bigSep Finset.univ A ∗ bigSep Finset.univ B ∗ bigSep Finset.univ C) := by
  rw [BI.bigSep_sep', BI.bigSep_sep']
theorem zip4 {T : Type} [Fintype T] (A B C D : T → sProp 𝕄) :
    bigSep Finset.univ (fun t => iprop(A t ∗ B t ∗ C t ∗ D t)) = iprop(bigSep Finset.univ A ∗ bigSep Finset.univ B ∗ bigSep Finset.univ C ∗ bigSep Finset.univ D) := by
  rw [BI.bigSep_sep', zip3]
theorem zip5 {T : Type} [Fintype T] (A B C D E : T → sProp 𝕄) :
    bigSep Finset.univ (fun t => iprop(A t ∗ B t ∗ C t ∗ D t ∗ E t))
      = iprop(bigSep Finset.univ A ∗ bigSep Finset.univ B ∗ bigSep Finset.univ C ∗ bigSep Finset.univ D ∗ bigSep Finset.univ E) := by
  rw [BI.bigSep_sep', zip4]

/-! ## Whole buffers -/

/-- A buffer at contents not chosen, cut. -/
theorem any_cut {T : Type} [Fintype T] [DecidableEq T] {ℓ : Loc nD τ sig} (J : T → Finset (Idx ℓ)) (hm : ∀ i, i ∈ (Finset.univ : Finset (Idx ℓ)) ↔ ∃ t, i ∈ J t)
    (hd : ∀ t t', t ≠ t' → Disjoint (J t) (J t')) :
    (iprop(∃ f : Buf (Elt F) ℓ, ℓ ↦{fullShare} f) : sProp 𝕄) ⊢ bigSep Finset.univ fun t => iprop(∃ f : Buf (Elt F) ℓ, ℓ ↦[J t]{fullShare} f) := by
  iintro ⟨%f, H⟩
  ihave H := (Entails.of_eq (cut_eq (Finset.univ : Finset (Idx ℓ)) J hm hd fullShare f)) $$ H
  iapply (mono (Φ := fun t => (ℓ ↦[J t]{fullShare} f : sProp 𝕄)) (Ψ := fun t => iprop(∃ f : Buf (Elt F) ℓ, ℓ ↦[J t]{fullShare} f))
    fun t => by iintro H; iexists f; iexact H)
  iexact H

/-- The product's buffer and the receiving one, in column chunks. -/
theorem cols_mem (i : S256x1024.Idx) : i ∈ (Finset.univ : Finset S256x1024.Idx) ↔ ∃ k : Fin 8, i ∈ (rP k).set := by
  have h1 : (i 1).val < 1024 := (i 1).isLt
  refine ⟨fun _ => ⟨⟨(i 1).val / 128, by omega⟩, ?_⟩, fun _ => Finset.mem_univ _⟩
  rw [mem_rP]
  show 128 * ((i 1).val / 128) ≤ (i 1).val ∧ (i 1).val < 128 * ((i 1).val / 128) + 128
  omega
theorem cols_disj (k k' : Fin 8) (h : k ≠ k') : Disjoint (rP k).set (rP k').set := by
  have hv : k.val ≠ k'.val := fun e => h (Fin.ext e)
  rw [Finset.disjoint_left]
  intro i
  rw [mem_rP, mem_rP]
  omega
theorem cols2_mem (i : S256x1024.Idx) : i ∈ (Finset.univ : Finset S256x1024.Idx) ↔ ∃ p : Fin 4, i ∈ (rQ p).set := by
  have h1 : (i 1).val < 1024 := (i 1).isLt
  refine ⟨fun _ => ⟨⟨(i 1).val / 256, by omega⟩, ?_⟩, fun _ => Finset.mem_univ _⟩
  rw [mem_rQ]
  show 256 * ((i 1).val / 256) ≤ (i 1).val ∧ (i 1).val < 256 * ((i 1).val / 256) + 256
  omega
theorem cols2_disj (p p' : Fin 4) (h : p ≠ p') : Disjoint (rQ p).set (rQ p').set := by
  have hv : p.val ≠ p'.val := fun e => h (Fin.ext e)
  rw [Finset.disjoint_left]
  intro i
  rw [mem_rQ, mem_rQ]
  omega
/-- The weights, in row blocks. -/
theorem wrows_mem (i : S1024x4096.Idx) : i ∈ (Finset.univ : Finset S1024x4096.Idx) ↔ ∃ p : Fin 4, i ∈ (wB p).view.set := by
  have h0 : (i 0).val < 1024 := (i 0).isLt
  refine ⟨fun _ => ⟨⟨(i 0).val / 256, by omega⟩, ?_⟩, fun _ => Finset.mem_univ _⟩
  rw [set_wB, mem_rW]
  show 256 * ((i 0).val / 256) ≤ (i 0).val ∧ (i 0).val < 256 * ((i 0).val / 256) + 256
  omega
theorem wrows_disj (p p' : Fin 4) (h : p ≠ p') : Disjoint (wB p).view.set (wB p').view.set := by
  have hv : p.val ≠ p'.val := fun e => h (Fin.ext e)
  rw [set_wB, set_wB, Finset.disjoint_left]
  intro i
  rw [mem_rW, mem_rW]
  omega
/-- The copies' buffer, in slots. -/
theorem slots_mem (i : S2x256x4096.Idx) : i ∈ (Finset.univ : Finset S2x256x4096.Idx) ↔ ∃ s : Fin 2, i ∈ (wbB s).view.set := by
  refine ⟨fun _ => ⟨⟨(i 0).val, (i 0).isLt⟩, ?_⟩, fun _ => Finset.mem_univ _⟩
  rw [set_wbB, mem_rS]
theorem slots_disj (s s' : Fin 2) (h : s ≠ s') : Disjoint (wbB s).view.set (wbB s').view.set := by
  have hv : s.val ≠ s'.val := fun e => h (Fin.ext e)
  rw [set_wbB, set_wbB, Finset.disjoint_left]
  intro i
  rw [mem_rS, mem_rS]
  omega

/-- The four row blocks. -/
def rowH (c : Dev nD) : Fin 4 → {o : ℕ // RowOk o 256}
  | 0 => ⟨_, (geoOf c).hown⟩
  | 1 => ⟨_, (geoOf c).hrz⟩
  | 2 => ⟨_, (geoOf c).hry⟩
  | 3 => ⟨_, (geoOf c).hrd⟩
theorem rowH_cover : ∀ (c : Dev nD) (q : Fin 4), ∃ j, (rowH c j).1 = 256 * q.val := by decide +kernel
theorem rowH_apart : ∀ (c : Dev nD) (j j' : Fin 4), j ≠ j' → (rowH c j).1 + 256 ≤ (rowH c j').1 ∨ (rowH c j').1 + 256 ≤ (rowH c j).1 := by decide +kernel
theorem row_at (c : Dev nD) (i : S1024x1024.Idx) : ∃ j, (rowH c j).1 ≤ (i 0).val ∧ (i 0).val < (rowH c j).1 + 256 := by
  have h0 : (i 0).val < 1024 := (i 0).isLt
  obtain ⟨j, hj⟩ := rowH_cover c ⟨(i 0).val / 256, by omega⟩
  refine ⟨j, ?_⟩
  rw [hj]
  show 256 * ((i 0).val / 256) ≤ (i 0).val ∧ (i 0).val < 256 * ((i 0).val / 256) + 256
  omega
theorem rows_mem (c : Dev nD) (i : S1024x1024.Idx) : i ∈ (Finset.univ : Finset S1024x1024.Idx) ↔ ∃ j : Fin 4, i ∈ (gatR (rowH c j).2).view.set := by
  refine ⟨fun _ => ?_, fun _ => Finset.mem_univ _⟩
  obtain ⟨j, hj⟩ := row_at c i
  exact ⟨j, by rw [set_gatR, mem_rR]; exact hj⟩
theorem rows_disj (c : Dev nD) (j j' : Fin 4) (h : j ≠ j') : Disjoint (gatR (rowH c j).2).view.set (gatR (rowH c j').2).view.set := by
  have := rowH_apart c j j' h
  rw [set_gatR, set_gatR, Finset.disjoint_left]
  intro i
  rw [mem_rR, mem_rR]
  omega

section Cuts

variable (X : (c : Dev nD) → Vec F S256x4096 .bf16) (Wt : (c : Dev nD) → Vec F S1024x4096 .f32)
variable (c : Dev nD)

/-- A buffer of the kernel at contents not chosen. -/
abbrev anyB (b : Ref sig .tc) : sProp 𝕄 := iprop(∃ f : Buf (Elt F) ((c : Thread nD τ).loc b), ((c : Thread nD τ).loc b) ↦{fullShare} f)

/-- The gathered buffer is its row blocks' chunks. -/
theorem gat_cut (q : PosShare TreeShare) (f : Vec F S1024x1024 .bf16) : (((c : Thread nD τ).loc cc0_scratch2) ↦{q} f : sProp 𝕄)
    = iprop((bigSep Finset.univ fun k : Fin 8 => mpt (gatB (geoOf c).hown k) c q f) ∗ (bigSep Finset.univ fun k : Fin 8 => mpt (gatB (geoOf c).hrz k) c q f)
      ∗ (bigSep Finset.univ fun k : Fin 8 => mpt (gatB (geoOf c).hry k) c q f) ∗ (bigSep Finset.univ fun k : Fin 8 => mpt (gatB (geoOf c).hrd k) c q f)) := by
  rw [← row, ← row, ← row, ← row]
  exact (cut_eq (ℓ := (c : Thread nD τ).loc cc0_scratch2) Finset.univ (fun j : Fin 4 => (gatR (rowH c j).2).view.set) (rows_mem c) (rows_disj c) q f).trans (four _)

theorem anyB_chunk {o o' : ℕ} (e : o = o') (h : RowOk o 256) (h' : RowOk o' 256) (k : Fin 8) : (mptAny (F := F) (gatB h k) c : sProp 𝕄) = mptAny (gatB h' k) c := by subst e; rfl
theorem anyH_chunk {o o' : ℕ} (e : o = o') (h : RowOk o 128) (h' : RowOk o' 128) (k : Fin 8) : (mptAny (F := F) (gatH h k) c : sProp 𝕄) = mptAny (gatH h' k) c := by subst e; rfl

theorem any0 (k : Fin 8) : landAny (F := F) (peer (0, k) c) c (0, k) = mptAny (recvB k) c := rfl
theorem any1 (k : Fin 8) : landAny (F := F) (peer (1, k) c) c (1, k) = mptAny (gatB (geoOf c).hrz k) c :=
  anyB_chunk c (rz_eq c) (geoOf (zdev c)).hown (geoOf c).hrz k
theorem any2 (k : Fin 8) : landAny (F := F) (peer (2, k) c) c (2, k) = mptAny (gatB (geoOf c).hry k) c :=
  anyB_chunk c (ry_eq c) (geoOf (ydev c)).hown (geoOf c).hry k
theorem any3 (k : Fin 8) : landAny (F := F) (peer (3, k) c) c (3, k) = mptAny (gatH (top (geoOf c).hrd) k) c :=
  anyH_chunk c (zfw_zdev c) (geoOf (zdev c)).hzfw (top (geoOf c).hrd) k
theorem any4 (k : Fin 8) : landAny (F := F) (peer (4, k) c) c (4, k) = mptAny (gatH (bot (geoOf c).hrd) k) c :=
  anyH_chunk c (yfw_ydev c) (geoOf (ydev c)).hyfw (bot (geoOf c).hrd) k

/-- The receiving buffer and the gathered one are the places transfers land in, and the own rows. -/
theorem places : iprop(anyB (F := F) c cc0_scratch1 ∗ anyB (F := F) c cc0_scratch2)
    ⊢ (iprop((bigSep Finset.univ fun e : PC => landAny (F := F) (peer e c) c e) ∗ bigSep Finset.univ fun k : Fin 8 => mptAny (F := F) (gatB (geoOf c).hown k) c) : sProp 𝕄) := by
  iintro ⟨HR, ⟨%f, HG⟩⟩
  ihave HR := (any_cut (F := F) (ℓ := (c : Thread nD τ).loc cc0_scratch1) (fun k : Fin 8 => (rP k).set) cols_mem cols_disj) $$ HR
  ihave HG := (Entails.of_eq (gat_cut c fullShare f)) $$ HG
  icases HG with ⟨HO, HZ, HY, HD⟩
  isplitr [HO]
  · rw [chunkwise]
    iapply (show iprop((bigSep Finset.univ fun k : Fin 8 => iprop(∃ f : Buf (Elt F) ((c : Thread nD τ).loc cc0_scratch1), ((c : Thread nD τ).loc cc0_scratch1) ↦[(rP k).set]{fullShare} f))
        ∗ (bigSep Finset.univ fun k : Fin 8 => mpt (gatB (geoOf c).hrz k) c fullShare f) ∗ (bigSep Finset.univ fun k : Fin 8 => mpt (gatB (geoOf c).hry k) c fullShare f)
        ∗ (bigSep Finset.univ fun k : Fin 8 => mpt (gatB (geoOf c).hrd k) c fullShare f))
      ⊢ (bigSep Finset.univ fun k : Fin 8 => iprop(landAny (F := F) (peer (0, k) c) c (0, k) ∗ landAny (F := F) (peer (1, k) c) c (1, k) ∗ landAny (F := F) (peer (2, k) c) c (2, k)
        ∗ landAny (F := F) (peer (3, k) c) c (3, k) ∗ landAny (F := F) (peer (4, k) c) c (4, k)) : sProp 𝕄) from by
      rw [← zip4]
      refine mono fun k => ?_
      rw [any0, any1, any2, any3, any4]
      iintro ⟨HR, HZ, HY, HD⟩
      ihave HD := (halves (geoOf c).hrd k c fullShare f).1 $$ HD
      icases HD with ⟨HD1, HD2⟩
      isplitl [HR]
      · icases HR with ⟨%g, HR⟩
        iexists g
        unfold mpt
        rw [set_recvB]; iexact HR
      isplitl [HZ]; · iexists f; iexact HZ
      isplitl [HY]; · iexists f; iexact HY
      isplitl [HD1]; · iexists f; iexact HD1
      iexists f; iexact HD2)
    isplitl [HR]; · iexact HR
    isplitl [HZ]; · iexact HZ
    isplitl [HY] <;> iassumption
  · iapply (mono (Φ := fun k : Fin 8 => (mpt (gatB (geoOf c).hown k) c fullShare f : sProp 𝕄)) (Ψ := fun k : Fin 8 => mptAny (F := F) (gatB (geoOf c).hown k) c)
      fun k => by iintro H; iexists f; iexact H)
    iexact HO

/-- The product's buffer. -/
theorem parts : anyB (F := F) c cc0_scratch0 ⊢ (bigSep Finset.univ fun p : Fin 4 => mptAny (F := F) (partQ p) c : sProp 𝕄) := by
  refine (any_cut (F := F) (ℓ := (c : Thread nD τ).loc cc0_scratch0) (fun p : Fin 4 => (rQ p).set) cols2_mem cols2_disj).trans (mono fun p => ?_)
  unfold mptAny mpt
  rw [set_partQ]

/-- The weights. -/
theorem rowsW_eq : (((c : Thread nD τ).loc main_arg1) ↦{fullShare} (Wt c) : sProp 𝕄) = rowsW Wt c :=
  cut_eq (ℓ := (c : Thread nD τ).loc main_arg1) Finset.univ (fun p : Fin 4 => (wB p).view.set) wrows_mem wrows_disj fullShare (Wt c)

/-- The copies' buffer. -/
theorem slots_cut : anyB (F := F) c cc0_scratch3 ⊢ (iprop(mptAny (F := F) (wbB 0) c ∗ mptAny (F := F) (wbB 1) c) : sProp 𝕄) :=
  (any_cut (F := F) (ℓ := (c : Thread nD τ).loc cc0_scratch3) (fun s : Fin 2 => (wbB s).view.set) slots_mem slots_disj).trans (Entails.of_eq (BI.bigSep_fin_two _))
theorem slots_univ : (wbB 0).view.set ∪ (wbB 1).view.set = (Finset.univ : Finset S2x256x4096.Idx) := by
  ext i
  rw [Finset.mem_union, slots_mem]
  exact ⟨fun h => h.elim (fun h => ⟨0, h⟩) (fun h => ⟨1, h⟩), fun ⟨s, h⟩ => by
    fin_cases s
    · exact .inl h
    · exact .inr h⟩
theorem slots_join : (iprop(mptAny (F := F) (wbB 0) c ∗ mptAny (F := F) (wbB 1) c) : sProp 𝕄) ⊢ anyB (F := F) c cc0_scratch3 := by
  iintro ⟨⟨%f, Hf⟩, ⟨%g, Hg⟩⟩
  ihave H := (pointsTo_join (ℓ := (c : Thread nD τ).loc cc0_scratch3) (q := fullShare) (f := f) (g := g) (slots_disj 0 1 (by decide))) $$ [Hf Hg]
  · isplitl [Hf] <;> iassumption
  rw [slots_univ]
  iexists _
  iexact H

/-! ## At the end -/

/-- What the chunks hold at the end is the product's buffer, the receiving one and the gathered one, and the
    transfers' ghost state. -/
theorem chunks_end :
    iprop(bigSep Finset.univ (C4 X Wt c) ∗ bigSep Finset.univ (CO X Wt c) ∗ bigSep Finset.univ (CZ X Wt c) ∗ bigSep Finset.univ (CY X Wt c) ∗ bigSep Finset.univ (CR X Wt c))
      ⊢ (iprop(bigSep Finset.univ (T2 (F := F) c) ∗ anyB (F := F) c cc0_scratch0 ∗ anyB (F := F) c cc0_scratch1 ∗ anyB (F := F) c cc0_scratch2) : sProp 𝕄) := by
  have hk : iprop(bigSep Finset.univ (C4 X Wt c) ∗ bigSep Finset.univ (CZ X Wt c) ∗ bigSep Finset.univ (CY X Wt c))
      ⊢ (bigSep Finset.univ fun k : Fin 8 => iprop((T2 (F := F) c (0, k) ∗ T2 (F := F) c (1, k) ∗ T2 (F := F) c (2, k) ∗ T2 (F := F) c (3, k) ∗ T2 (F := F) c (4, k))
        ∗ mpt (partB k) c fullShare (partF X Wt c) ∗ mpt (recvB k) c fullShare (partF X Wt (xdev c))
        ∗ mpt (gatB (geoOf c).hrz k) c fullShare (gatF X Wt c) ∗ mpt (gatB (geoOf c).hry k) c fullShare (gatF X Wt c)) : sProp 𝕄) := by
    rw [← zip3]
    refine mono fun k => ?_
    unfold C4 CD CZ CY srcPt landPt
    iintro ⟨⟨⟨H0, Hs, Hl⟩, H1, H2, H3, H4, HZ2, HY2⟩, HZ1, HY1⟩
    isplitl [H0 H1 H2 H3 H4]
    · isplitl [H0]; · iexact H0
      isplitl [H1]; · iexact H1
      isplitl [H2]; · iexact H2
      isplitl [H3] <;> iassumption
    isplitl [Hs]; · iexact Hs
    isplitl [Hl]; · iexact Hl
    isplitl [HZ1 HZ2]
    · iapply (shares (geoOf c).hrz k c (gatF X Wt c)).2
      isplitl [HZ1] <;> iassumption
    iapply (shares (geoOf c).hry k c (gatF X Wt c)).2
    isplitl [HY1] <;> iassumption
  iintro ⟨H4, HO, HZ, HY, HR⟩
  ihave H := hk $$ [H4 HZ HY]
  · isplitl [H4]; · iexact H4
    isplitl [HZ] <;> iassumption
  ihave H := (show (bigSep Finset.univ fun k : Fin 8 => iprop((T2 (F := F) c (0, k) ∗ T2 (F := F) c (1, k) ∗ T2 (F := F) c (2, k) ∗ T2 (F := F) c (3, k) ∗ T2 (F := F) c (4, k))
        ∗ mpt (partB k) c fullShare (partF X Wt c) ∗ mpt (recvB k) c fullShare (partF X Wt (xdev c))
        ∗ mpt (gatB (geoOf c).hrz k) c fullShare (gatF X Wt c) ∗ mpt (gatB (geoOf c).hry k) c fullShare (gatF X Wt c)) : sProp 𝕄)
      ⊢ iprop((bigSep Finset.univ fun e : PC => T2 (F := F) c e) ∗ (bigSep Finset.univ fun k : Fin 8 => mpt (partB k) c fullShare (partF X Wt c))
        ∗ (bigSep Finset.univ fun k : Fin 8 => mpt (recvB k) c fullShare (partF X Wt (xdev c)))
        ∗ (bigSep Finset.univ fun k : Fin 8 => mpt (gatB (geoOf c).hrz k) c fullShare (gatF X Wt c)) ∗ (bigSep Finset.univ fun k : Fin 8 => mpt (gatB (geoOf c).hry k) c fullShare (gatF X Wt c))) from by
    rw [zip5, chunkwise]) $$ H
  icases H with ⟨HT, HP, HV, HZ, HY⟩
  isplitl [HT]; · iexact HT
  isplitl [HP]
  · iexists (partF X Wt c)
    iapply (Entails.of_eq (cut_eq (ℓ := (c : Thread nD τ).loc cc0_scratch0) Finset.univ (fun k : Fin 8 => (rP k).set) cols_mem cols_disj fullShare (partF X Wt c)).symm)
    simp only [← set_partB]
    iexact HP
  isplitl [HV]
  · iexists (partF X Wt (xdev c))
    iapply (Entails.of_eq (cut_eq (ℓ := (c : Thread nD τ).loc cc0_scratch1) Finset.univ (fun k : Fin 8 => (rP k).set) cols_mem cols_disj fullShare (partF X Wt (xdev c))).symm)
    simp only [← set_recvB]
    iexact HV
  iexists (gatF X Wt c)
  iapply (Entails.of_eq (gat_cut c fullShare (gatF X Wt c)).symm)
  unfold CO CR
  isplitl [HO]; · iexact HO
  isplitl [HZ]; · iexact HZ
  isplitl [HY] <;> iassumption

/-- The result once all row blocks are written. -/
theorem out_end : outSt X Wt c [(geoOf c).rd, (geoOf c).ry, (geoOf c).rz, (geoOf c).own] ⊢ (mpt A2 c fullShare (outF X Wt c) : sProp 𝕄) := by
  unfold outSt
  iintro ⟨%f, %hf, H⟩
  have e : f = outF X Wt c := funext fun i => hf i (by
    obtain ⟨j, hj⟩ := row_at c i
    refine ⟨(rowH c j).1, ?_, hj⟩
    fin_cases j
    · exact List.mem_cons_of_mem _ (List.mem_cons_of_mem _ (List.mem_cons_of_mem _ List.mem_cons_self))
    · exact List.mem_cons_of_mem _ (List.mem_cons_of_mem _ List.mem_cons_self)
    · exact List.mem_cons_of_mem _ List.mem_cons_self
    · exact List.mem_cons_self)
  rw [← e]
  iexact H

end Cuts

end Cert.KernelIdeal.Cuts

end
-- ==== Proof.Cells.lean ====
/- The kernel's own cells opened at the region's entry and closed at its end. -/
module

public import proofs.«01_k».proof.Proof.Cuts

@[expose] public section

set_option backward.proofsInPublic true

noncomputable section

namespace Cert.KernelIdeal.Cells

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps Cert.KernelIdeal.Proto Cert.KernelIdeal.Pieces Cert.KernelIdeal.Moves
open Cert.KernelIdeal.Chunks Cert.KernelIdeal.Blocks Cert.KernelIdeal.Main Cert.KernelIdeal.Cuts

variable {F : FTy → Type} [FloatOps F]

local notation "𝕄" => MT nD τ sig Unit (Elt F) ℕ UU ℕ

theorem copyI_inj : Function.Injective copyI := fun s s' h => Fin.ext (show (copyI s).val = (copyI s').val from congrArg Fin.val h)
theorem pc_inj (n : ℕ) (e e' : PC) (h : n + (8 * e.1.val + e.2.val) = n + (8 * e'.1.val + e'.2.val)) : e = e' := by
  have h1 := e.2.isLt
  have h2 := e'.2.isLt
  exact Prod.ext (Fin.ext (by omega)) (Fin.ext (by omega))
theorem sendI_inj : Function.Injective sendI := fun e e' h => pc_inj 2 e e' (congrArg Fin.val h)
theorem recvI_inj : Function.Injective recvI := fun e e' h => pc_inj 42 e e' (congrArg Fin.val h)
theorem own_univ : (Finset.univ : Finset (Fin 82)) = Finset.univ.image copyI ∪ (Finset.univ.image sendI ∪ Finset.univ.image recvI) := by
  ext i
  have hi := i.isLt
  refine ⟨fun _ => ?_, fun _ => Finset.mem_univ _⟩
  rw [Finset.mem_union, Finset.mem_union, Finset.mem_image, Finset.mem_image, Finset.mem_image]
  by_cases h : i.val < 2
  · exact .inl ⟨⟨i.val, h⟩, Finset.mem_univ _, rfl⟩
  by_cases h' : i.val < 42
  · exact .inr (.inl ⟨(⟨(i.val - 2) / 8, by omega⟩, ⟨(i.val - 2) % 8, by omega⟩), Finset.mem_univ _, Fin.ext (by
      show 2 + (8 * ((i.val - 2) / 8) + (i.val - 2) % 8) = i.val; omega)⟩)
  · exact .inr (.inr ⟨(⟨(i.val - 42) / 8, by omega⟩, ⟨(i.val - 42) % 8, by omega⟩), Finset.mem_univ _, Fin.ext (by
      show 42 + (8 * ((i.val - 42) / 8) + (i.val - 42) % 8) = i.val; omega)⟩)
theorem own_disj : Disjoint (Finset.univ.image copyI) (Finset.univ.image sendI ∪ Finset.univ.image recvI) := by
  rw [Finset.disjoint_left]
  intro i h h'
  obtain ⟨s, -, rfl⟩ := Finset.mem_image.mp h
  have hs := s.isLt
  rcases Finset.mem_union.mp h' with h' | h'
  all_goals
    obtain ⟨e, -, h'⟩ := Finset.mem_image.mp h'
    have := congrArg Fin.val h'
    dsimp only at this
    omega
theorem own_disj' : Disjoint (Finset.univ.image sendI) (Finset.univ.image recvI) := by
  rw [Finset.disjoint_left]
  intro i h h'
  obtain ⟨s, -, rfl⟩ := Finset.mem_image.mp h
  have h1 := s.1.isLt
  have h2 := s.2.isLt
  obtain ⟨e, -, h'⟩ := Finset.mem_image.mp h'
  have := congrArg Fin.val h'
  dsimp only at this
  omega
/-- The own semaphores: the copies', the sends', the receives'. -/
theorem own_split (Φ : Fin 82 → sProp 𝕄) : bigSep Finset.univ Φ
    = iprop((Φ (copyI 0) ∗ Φ (copyI 1)) ∗ (bigSep Finset.univ fun e : PC => Φ (sendI e)) ∗ bigSep Finset.univ fun e : PC => Φ (recvI e)) := by
  rw [own_univ, BI.bigSep_union own_disj, BI.bigSep_union own_disj', bigSep_image_of_injOn (f := copyI) (Function.Injective.injOn copyI_inj),
    bigSep_image_of_injOn (f := sendI) (Function.Injective.injOn sendI_inj), bigSep_image_of_injOn (f := recvI) (Function.Injective.injOn recvI_inj), BI.bigSep_fin_two]
  rfl
/-- The same, over what a cell holds. -/
theorem own_cells (c : Dev nD) (Φ : GSem nD τ sig → sProp 𝕄) : (bigSep Finset.univ fun i : Fin 82 => Φ ((c : Thread nD τ), osem i))
    = iprop((Φ (copyCell c 0) ∗ Φ (copyCell c 1)) ∗ (bigSep Finset.univ fun e : PC => Φ (sendCell c e)) ∗ bigSep Finset.univ fun e : PC => Φ (recvCell c e)) := by
  rw [own_split]
  simp only [osem_send, osem_recv, osem_copy]

section Cells

variable (X : (c : Dev nD) → Vec F S256x4096 .bf16) (Wt : (c : Dev nD) → Vec F S1024x4096 .f32)
variable (K : GSem nD τ sig → ℕ) (c : Dev nD)

/-- A slot's ghost state at the start. -/
def SG (s : Fin 2) : sProp 𝕄 :=
  iprop(atPos ER (copyCell c s) 0 ∅ 0 ∗ dutyTok ER (copyCell c s) 0 0 ∗ dutyTok ER (copyCell c s) 1 0 ∗ reached ER (copyCell c s) 0)
/-- The tokens a device pays with, by what they are for. -/
def toks : sProp 𝕄 :=
  iprop((bigSep Finset.univ fun a : Fin 3 => dutyTok ER (barCell (nbr a c)) 0 a)
    ∗ ((dutyTok ER (copyCell c 0) 0 0 ∗ dutyTok ER (copyCell c 0) 1 0) ∗ (dutyTok ER (copyCell c 1) 0 0 ∗ dutyTok ER (copyCell c 1) 1 0))
    ∗ (bigSep Finset.univ fun e : PC => dutyTok ER (sendCell c e) 0 0) ∗ bigSep Finset.univ fun e : PC => dutyTok ER (recvCell (peer e c) e) 0 0)
/-- What stays with a device from the launch on. -/
def linear : sProp 𝕄 :=
  iprop(atPos ER (barCell c) 0 ∅ 0 ∗ (bigSep Finset.univ fun i : Fin 82 => openTok ER ((c : Thread nD τ), osem i)) ∗ toks c)
/-- Its credit. -/
def creds : sProp 𝕄 :=
  iprop(cred (tallyAt (barCell c) () 3) ∗ bigSep Finset.univ fun e : PC => cred (tallyAt (recvCell c e) () (amtE e)))
/-- What every device may consult. -/
def records : sProp 𝕄 :=
  iprop((bigSep (barCells ∪ ownCells) fun g => cellInv ER (Rd X Wt) (K g) g) ∗ bigSep Finset.univ fun c : Dev nD => reached ER (barCell c) 0)
instance records_persistent : BI.Persistent (records X Wt K) := by unfold records; infer_instance

/-- The own cells opened. -/
theorem opened : iprop(ctx X Wt K ∗ (bigSep Finset.univ fun i : Fin 82 => openTok ER ((c : Thread nD τ), osem i)) ∗ Pipeline.ownSems0 osem c)
    ⊢ (|={Set.univ}=> bigSep Finset.univ fun i : Fin 82 => iprop(atPos ER ((c : Thread nD τ), osem i) 0 ∅ 0 ∗ reached ER ((c : Thread nD τ), osem i) 0) : sProp 𝕄) := by
  unfold Pipeline.ownSems0
  rw [← BI.bigSep_sep']
  refine (bigSep_with_persistent (R := ctx X Wt K) (Ψ := fun i : Fin 82 => iprop(|={Set.univ}=> (atPos ER ((c : Thread nD τ), osem i) 0 ∅ 0 ∗ reached ER ((c : Thread nD τ), osem i) 0))) fun i _ => ?_).trans
    (bigSep_fupd _ _)
  iintro ⟨#Hc, Ho, Hv⟩
  iapply (cell_open ER (Rd X Wt) (κ := K ((c : Thread nD τ), osem i)) (Set.mem_univ _))
  isplitr; · iapply (ctx_own X Wt K c i _ rfl); iexact Hc
  isplitl [Ho] <;> iassumption

/-- What the region's entry makes of what the launch kept. -/
def entered : sProp 𝕄 :=
  iprop(ctx X Wt K ∗ B0 (F := F) c ∗ (bigSep Finset.univ fun e : PC => reached ER (recvCell c e) 0) ∗ bigSep Finset.univ (TI (F := F) c) ∗ SG (F := F) c 0 ∗ SG (F := F) c 1)

theorem enter : iprop((records X Wt K ∗ linear (F := F) c ∗ creds (F := F) c) ∗ Pipeline.ownSems0 osem c ∗ levAts L lv) ⊢ (|={Set.univ}=> entered X Wt K c : sProp 𝕄) := by
  unfold records linear
  iintro ⟨⟨⟨#HI, #HB⟩, ⟨Hat, Ho, Ht⟩, Hcr⟩, Hv, #HL⟩
  ihave #Hc := (show iprop((bigSep (barCells ∪ ownCells) fun g => cellInv ER (Rd X Wt) (K g) g) ∗ levAts L lv) ⊢ ctx X Wt K from .rfl) $$ []
  · isplitr; · iexact HI
    iexact HL
  imod (opened X Wt K c) $$ [Ho Hv] with H
  · isplitr; · iexact Hc
    isplitl [Ho] <;> iassumption
  imodintro
  ihave H := (Entails.of_eq (own_cells c fun g => iprop(atPos ER g 0 ∅ 0 ∗ reached ER g 0))) $$ H
  unfold toks creds entered B0 SG
  rw [three]
  icases Ht with ⟨⟨Hb0, Hb1, Hb2⟩, ⟨⟨H00, H01⟩, ⟨H10, H11⟩⟩, HtS, HtR⟩
  icases H with ⟨⟨⟨Ha0, #Hr0⟩, ⟨Ha1, #Hr1⟩⟩, HS, HR⟩
  icases Hcr with ⟨HcB, HcR⟩
  ihave HT := (show iprop((bigSep Finset.univ fun e : PC => iprop(atPos ER (sendCell c e) 0 ∅ 0 ∗ reached ER (sendCell c e) 0)) ∗ (bigSep Finset.univ fun e : PC => iprop(atPos ER (recvCell c e) 0 ∅ 0 ∗ reached ER (recvCell c e) 0))
        ∗ (bigSep Finset.univ fun e : PC => dutyTok ER (sendCell c e) 0 0) ∗ (bigSep Finset.univ fun e : PC => dutyTok ER (recvCell (peer e c) e) 0 0)
        ∗ (bigSep Finset.univ fun e : PC => cred (tallyAt (recvCell c e) () (amtE e))))
      ⊢ (iprop((bigSep Finset.univ fun e : PC => reached ER (recvCell c e) 0) ∗ bigSep Finset.univ (TI (F := F) c)) : sProp 𝕄) from by
    rw [← zip5, ← BI.bigSep_sep']
    refine mono fun e => ?_
    unfold TI
    iintro ⟨⟨HaS, #HrS⟩, ⟨HaR, #HrR⟩, HtS, HtR, Hc⟩
    isplitr; · iexact HrR
    isplitl [HaS]; · iexact HaS
    isplitl [HaR]; · iexact HaR
    isplitl [HtS]; · iexact HtS
    isplitl [HtR]; · iexact HtR
    isplitl [Hc]; · iexact Hc
    iexact HrS) $$ [HS HR HtS HtR HcR]
  · isplitl [HS]; · iexact HS
    isplitl [HR]; · iexact HR
    isplitl [HtS]; · iexact HtS
    isplitl [HtR] <;> iassumption
  icases HT with ⟨HR, HT⟩
  isplitr; · iexact Hc
  isplitl [Hat Hb0 Hb1 Hb2 HcB]
  · isplitl [Hat]; · iexact Hat
    isplitl [Hb0]
    · isplitl [Hb0]; · iexact Hb0
      iapply (show (bigSep Finset.univ fun c : Dev nD => reached ER (barCell c) 0) ⊢ (reached ER (barCell (nbr 0 c)) 0 : sProp 𝕄) from BI.bigSep_elim (Finset.mem_univ _)); iexact HB
    isplitl [Hb1]
    · isplitl [Hb1]; · iexact Hb1
      iapply (show (bigSep Finset.univ fun c : Dev nD => reached ER (barCell c) 0) ⊢ (reached ER (barCell (nbr 1 c)) 0 : sProp 𝕄) from BI.bigSep_elim (Finset.mem_univ _)); iexact HB
    isplitl [Hb2]
    · isplitl [Hb2]; · iexact Hb2
      iapply (show (bigSep Finset.univ fun c : Dev nD => reached ER (barCell c) 0) ⊢ (reached ER (barCell (nbr 2 c)) 0 : sProp 𝕄) from BI.bigSep_elim (Finset.mem_univ _)); iexact HB
    iexact HcB
  isplitl [HR]; · iexact HR
  isplitl [HT]; · iexact HT
  isplitl [Ha0 H00 H01]
  · isplitl [Ha0]; · iexact Ha0
    isplitl [H00]; · iexact H00
    isplitl [H01]; · iexact H01
    iexact Hr0
  isplitl [Ha1]; · iexact Ha1
  isplitl [H10]; · iexact H10
  isplitl [H11]; · iexact H11
  iexact Hr1

/-- The transfers' cells closed. -/
theorem closeT : iprop(ctx X Wt K ∗ bigSep Finset.univ (T2 (F := F) c))
    ⊢ (|={Set.univ}=> bigSep Finset.univ fun e : PC => iprop(semVal (sendCell c e) 0 ∗ semVal (recvCell c e) 0) : sProp 𝕄) := by
  refine (bigSep_with_persistent (R := ctx X Wt K) (Ψ := fun e : PC => iprop(|={Set.univ}=> (semVal (sendCell c e) 0 ∗ semVal (recvCell c e) 0))) fun e _ => ?_).trans
    (bigSep_fupd _ _)
  unfold T2
  iintro ⟨#Hc, HS, HR⟩
  imod (cell_close ER (Rd X Wt) (g := sendCell c e) (κ := K (sendCell c e)) (Set.mem_univ _) id (later_send X Wt c e)) $$ [HS] with HS
  · isplitr; · iapply (ctx_send X Wt K c e); iexact Hc
    iexact HS
  imod (cell_close ER (Rd X Wt) (g := recvCell c e) (κ := K (recvCell c e)) (Set.mem_univ _) id (later_recv X Wt c e)) $$ [HR] with HR
  · isplitr; · iapply (ctx_recv X Wt K c e); iexact Hc
    iexact HR
  imodintro
  isplitl [HS] <;> iassumption

/-- Every cell closed. -/
theorem leave : iprop(ctx X Wt K ∗ bigSep Finset.univ (T2 (F := F) c) ∗ atPos ER (barCell c) 1 ∅ 0 ∗ atPos ER (copyCell c 0) 2 ∅ 0 ∗ atPos ER (copyCell c 1) 2 ∅ 0)
    ⊢ (|={Set.univ}=> (semVal (barCell c) 0 ∗ Pipeline.ownSems0 osem c) : sProp 𝕄) := by
  iintro ⟨#Hc, HT, HB, H0, H1⟩
  imod (closeT X Wt K c) $$ [HT] with HT
  · isplitr; · iexact Hc
    iexact HT
  imod (cell_close ER (Rd X Wt) (g := barCell c) (κ := K (barCell c)) (Set.mem_univ _) id (later_bar X Wt c)) $$ [HB] with HB
  · isplitr; · iapply (ctx_bar X Wt K c); iexact Hc
    iexact HB
  imod (cell_close ER (Rd X Wt) (g := copyCell c 0) (κ := K (copyCell c 0)) (Set.mem_univ _) id (later_copy X Wt c 0)) $$ [H0] with H0
  · isplitr; · iapply (ctx_copy X Wt K c 0); iexact Hc
    iexact H0
  imod (cell_close ER (Rd X Wt) (g := copyCell c 1) (κ := K (copyCell c 1)) (Set.mem_univ _) id (later_copy X Wt c 1)) $$ [H1] with H1
  · isplitr; · iapply (ctx_copy X Wt K c 1); iexact Hc
    iexact H1
  imodintro
  isplitl [HB]; · iexact HB
  unfold Pipeline.ownSems0
  iapply (Entails.of_eq (own_cells c fun g => semVal g 0).symm)
  isplitl [H0 H1]; · isplitl [H0] <;> iassumption
  iapply (Entails.of_eq (BI.bigSep_sep' Finset.univ (fun e : PC => (semVal (sendCell c e) 0 : sProp 𝕄)) fun e => semVal (recvCell c e) 0))
  iexact HT

end Cells

end Cert.KernelIdeal.Cells

end
-- ==== Proof.BodyEq.lean ====
/- The printed body is the steps of `Steps.bodyP`, by unfolding. -/
module

public import proofs.«01_k».proof.Proof.Body

@[expose] public section

noncomputable section

namespace Cert.KernelIdeal.Steps

open Idealize.ShloMosaic Idealize.ShloMosaic.TcCoe
open Idealize.SL Idealize.SL.Sem
open Cert.KernelIdeal.Gen

variable {F : FTy → Type} [FloatOps F]

set_option maxRecDepth 65536 in
set_option maxHeartbeats 0 in
/-- The body as the pipeline calls it is `bodyP` on the two staging buffers. -/
theorem body_eq (t : Fin cfg0.N) : bodyAt0 (F := F) t = bodyP (st0_0 t) (st0_1 t) := rfl

end Cert.KernelIdeal.Steps

end
-- ==== Proof.Run.lean ====
/- The body run from the region's entry to its end. -/
module

public import proofs.«01_k».proof.Proof.Cells
public import proofs.«01_k».proof.Proof.BodyEq
public import proofs.«01_k».proof.Proof.Gen.KernelIdeal.Points
public import proofs.«01_k».proof.Proof.Gen.KernelIdeal.Regions

@[expose] public section

set_option backward.proofsInPublic true

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen Cert.KernelIdeal.Steps Cert.KernelIdeal.Proto Cert.KernelIdeal.Pieces Cert.KernelIdeal.Moves
open Cert.KernelIdeal.Chunks Cert.KernelIdeal.Blocks Cert.KernelIdeal.Main Cert.KernelIdeal.Cuts Cert.KernelIdeal.Cells

variable {F : FTy → Type} [FloatOps F]

local notation "𝕄" => MT nD τ sig Unit (Elt F) ℕ UU ℕ

section Run

variable (X : (c : Dev nD) → Vec F S256x4096 .bf16) (Wt : (c : Dev nD) → Vec F S1024x4096 .f32)
variable (K : GSem nD τ sig → ℕ) (c : Dev nD)

/-- The buffers the kernel keeps to itself. -/
def scratch : sProp 𝕄 :=
  iprop(anyB (F := F) c cc0_scratch0 ∗ anyB (F := F) c cc0_scratch1 ∗ anyB (F := F) c cc0_scratch2 ∗ anyB (F := F) c cc0_scratch3 ∗ anyB (F := F) c cc0_scratch4)
/-- The invariant before the body. -/
def start : sProp 𝕄 :=
  iprop((∃ K, entered X Wt K c) ∗ scratch (F := F) c ∗ (((c : Thread nD τ).loc main_arg1) ↦{fullShare} (Wt c)) ∗ ∃ r, prngReg c r)
/-- The invariant after it. -/
def finish : sProp 𝕄 :=
  iprop((semVal (barCell c) 0 ∗ Pipeline.ownSems0 osem c) ∗ scratch (F := F) c ∗ (((c : Thread nD τ).loc main_arg1) ↦{fullShare} (Wt c)) ∗ ∃ r, prngReg c r)

/-- What the body takes. -/
theorem pre_of : iprop(entered X Wt K c ∗ scratch (F := F) c ∗ (((c : Thread nD τ).loc main_arg1) ↦{fullShare} (Wt c))
      ∗ (∃ W, owes (c : Thread nD τ) (owed0 c) W) ∗ mpt A0 c fullShare (X c) ∗ mptAny (F := F) A2 c)
    ⊢ (pre X Wt K c : sProp 𝕄) := by
  unfold entered scratch pre S0 SG
  rw [BI.bigSep_sep' Finset.univ (fun e : PC => landAny (F := F) (peer e c) c e) fun e : PC => reached ER (recvCell c e) 0]
  iintro ⟨⟨Hc, HB, HR, HT, ⟨Ha0, Hd0, He0, Hr0⟩, ⟨Ha1, Hd1, He1, Hr1⟩⟩, ⟨HP, HC1, HC2, HC3, HC4⟩, HW, HO, HX, ⟨%f, HY⟩⟩
  ihave HL := (places (F := F) c) $$ [HC1 HC2]
  · isplitl [HC1] <;> iassumption
  icases HL with ⟨HL, HG⟩
  ihave HS := (slots_cut (F := F) c) $$ HC3
  icases HS with ⟨HS0, HS1⟩
  isplitl [Hc]; · iexact Hc
  isplitl [HB]; · iexact HB
  isplitl [HO]; · iexact HO
  isplitl [HL HR]; · isplitl [HL] <;> iassumption
  isplitl [HT]; · iexact HT
  isplitl [HG]; · iexact HG
  isplitl [Ha0 Hd0 He0 Hr0 HS0 Ha1 Hd1 He1 Hr1 HS1]
  · isplitl [Ha0 Hd0 He0 Hr0 HS0]
    · isplitl [Ha0]; · iexact Ha0
      isplitl [Hd0]; · iexact Hd0
      isplitl [He0]; · iexact He0
      isplitl [Hr0]; · iexact Hr0
      iexact HS0
    · isplitl [Ha1]; · iexact Ha1
      isplitl [Hd1]; · iexact Hd1
      isplitl [He1]; · iexact He1
      isplitl [Hr1]; · iexact Hr1
      iexact HS1
  isplitl [HW]; · iapply (Entails.of_eq (rowsW_eq Wt c)); iexact HW
  isplitl [HC4 HX]
  · isplitl [HC4]
    · unfold anyW; iexact HC4
    iexact HX
  isplitl [HP]; · iapply (parts (F := F) c); iexact HP
  unfold outSt
  iexists f
  isplitr
  · ipureintro
    rintro i ⟨o, h, -⟩
    exact absurd h List.not_mem_nil
  iexact HY

/-- What the body gives back. -/
theorem post_to : iprop(ctx X Wt K ∗ Cert.KernelIdeal.Main.post X Wt c)
    ⊢ (|={Set.univ}=> ((semVal (barCell c) 0 ∗ Pipeline.ownSems0 osem c) ∗ scratch (F := F) c ∗ (((c : Thread nD τ).loc main_arg1) ↦{fullShare} (Wt c))
      ∗ owesE (F := F) c [] ∗ mpt A0 c fullShare (X c) ∗ mpt A2 c fullShare (outF X Wt c)) : sProp 𝕄) := by
  unfold Cert.KernelIdeal.Main.post Cert.KernelIdeal.Main.S2
  iintro ⟨#Hc, HB, HO, HE, ⟨⟨Ha0, HS0⟩, ⟨Ha1, HS1⟩⟩, HW, ⟨HC4, HX⟩, HY⟩
  ihave HE := (chunks_end X Wt c) $$ HE
  icases HE with ⟨HT, HP, HC1, HC2⟩
  imod (leave X Wt K c) $$ [HT HB Ha0 Ha1] with H
  · isplitr; · iexact Hc
    isplitl [HT]; · iexact HT
    isplitl [HB]; · iexact HB
    isplitl [Ha0] <;> iassumption
  imodintro
  isplitl [H]; · iexact H
  isplitl [HP HC1 HC2 HS0 HS1 HC4]
  · unfold scratch
    isplitl [HP]; · iexact HP
    isplitl [HC1]; · iexact HC1
    isplitl [HC2]; · iexact HC2
    isplitl [HS0 HS1]
    · iapply (slots_join (F := F) c)
      isplitl [HS0] <;> iassumption
    unfold anyW; iexact HC4
  isplitl [HW]; · iapply (Entails.of_eq (rowsW_eq Wt c).symm); iexact HW
  isplitl [HO]; · iexact HO
  isplitl [HX]; · iexact HX
  iapply (out_end X Wt c); iexact HY

/-- The run of the body. -/
theorem run (Kt : PUnit → sProp 𝕄) :
    iprop(start X Wt c ∗ (∃ W, owes (c : Thread nD τ) (owed0 c) W) ∗ mpt A0 c fullShare (X c) ∗ mptAny (F := F) A2 c)
      ⊢ iprop(((finish Wt c ∗ owesE (F := F) c [] ∗ mpt A0 c fullShare (X c) ∗ mpt A2 c fullShare (outF X Wt c)) -∗ Kt ⟨⟩)
        -∗ wp frame (wpE (defs₀ (F := F)) 𝒱₀ c none) Set.univ (bodyP (F := F) A0 A2) Kt) := by
  unfold bodyP start
  simp only [Prog.lift, Prog.bind_op, Prog.bind_ret, wp_deviceId]
  iintro ⟨⟨⟨%K, HE⟩, HC, HW, Hp⟩, HO, HX, HY⟩
  iintro Hk
  ihave #Hc := (show entered X Wt K c ⊢ ctx X Wt K from by unfold entered; iintro ⟨H, -⟩; iexact H) $$ [HE]
  · iexact HE
  iapply (wp_fupd (Fr := frame) (wpE := wpE (defs₀ (F := F)) 𝒱₀ c none) (E := Set.univ) (mainP (F := F) (geoOf c) A0 A2) Kt)
  iapply (Cert.KernelIdeal.Main.main X Wt K c _) $$ [HE HC HW HO HX HY]
  · iapply (pre_of X Wt K c)
    isplitl [HE]; · iexact HE
    isplitl [HC]; · iexact HC
    isplitl [HW]; · iexact HW
    isplitl [HO]; · iexact HO
    isplitl [HX] <;> iassumption
  iintro Hpost
  imod (post_to X Wt K c) $$ [Hpost] with ⟨Hs, HC, HW, HO, HX, HY⟩
  · isplitr; · iexact Hc
    iexact Hpost
  imodintro
  iapply Hk
  unfold finish
  isplitl [Hs HC HW Hp]
  · isplitl [Hs]; · iexact Hs
    isplitl [HC]; · iexact HC
    isplitl [HW]; · iexact HW
    iexact Hp
  isplitl [HO]; · iexact HO
  isplitl [HX]; · iexact HX
  iexact HY

end Run

section Body

variable (V : Dev nD → Valuation τ sig (Elt F))

/-- The activations and the weights, as the region finds them. -/
abbrev actOf : (c : Dev nD) → Vec F S256x4096 .bf16 := fun c => V c main_v16
abbrev wgtOf : (c : Dev nD) → Vec F S1024x4096 .f32 := fun c => V c main_arg1

/-- The region's data. -/
def dat (c : Dev nD) : Dat τ (Elt F) Unit ℕ UU ℕ cfg0 c where
  A := fun | 0 => V c main_v16 | 1 => V c main_v17 | ⟨_ + 2, h⟩ => absurd h (Nat.not_lt.2 (Nat.le_add_left _ _))
  after := fun | 0 => fun _ => actOf V c | 1 => fun _ => outF (actOf V) (wgtOf V) c | ⟨_ + 2, h⟩ => absurd h (Nat.not_lt.2 (Nat.le_add_left _ _))
  Φ t := if t.val = 0 then start (actOf V) (wgtOf V) c else finish (wgtOf V) c
  q _ := fullShare
  owed t := if t.val = 0 then owed0 c else 0

variable (c : Dev nD)

theorem owed_first : (dat V c).owed t0_0.castSucc = owed0 c := by
  show (if (t0_0.castSucc : Fin (cfg0.N + 1)).val = 0 then owed0 c else 0) = owed0 c; exact if_pos rfl
theorem owed_last : (dat V c).owed (Fin.last _) = 0 := by
  show (if (Fin.last cfg0.N).val = 0 then owed0 c else 0) = 0
  rw [Fin.val_last, if_neg (by rw [show cfg0.N = 1 from N_0]; decide)]

theorem owes_in (O : CellTallies nD τ sig Unit) (t : Fin (cfg0.N + 1)) (h : (dat V c).owed t = O) (W : Waits sig Unit) :
    (owes (c : Thread nD τ) O W : sProp 𝕄) ⊢ ((dat V c).owesAt () t : sProp 𝕄) := by
  unfold Dat.owesAt Pipeline.owesWithin Dat.bound; rw [h, show (dat V c).recorded t = Set.univ from rfl]
  iintro HO; iexists W; isplitr; · ipureintro; exact fun _ _ => Or.inl trivial
  iexact HO
theorem owes_out (O : CellTallies nD τ sig Unit) (t : Fin (cfg0.N + 1)) (h : (dat V c).owed t = O) :
    ((dat V c).owesAt () t : sProp 𝕄) ⊢ iprop(∃ W, owes (c : Thread nD τ) O W) := by
  unfold Dat.owesAt Pipeline.owesWithin; rw [h]
  iintro ⟨%W, -, HO⟩; iexists W; iexact HO

/-- The fetched block is the whole array. -/
theorem before0 (d) : (dat V c).before 0 t0_0 d = actOf V c := by
  rw [Dat.before_fetched _ 0 t0_0 (fetch0_0 t0_0) d]
  funext x
  show V c main_v16 (((win0_0).blk t0_0).view.emb x) = V c main_v16 x
  refine congrArg (V c main_v16) (funext fun a => Fin.ext ?_)
  show 0 * S256x4096.size a + 1 * (x a).val = (x a).val
  omega

theorem owns_A0 (f : Vec F S256x4096 .bf16) : (owns c A0 fullShare f : sProp 𝕄) ⊢ mpt A0 c fullShare f := by
  unfold owns
  iintro ⟨%g, %h, H⟩
  rw [show f = g from h.symm]
  iexact H
theorem A0_owns (f : Vec F S256x4096 .bf16) : mpt A0 c fullShare f ⊢ (owns c A0 fullShare f : sProp 𝕄) := by
  unfold owns
  iintro H
  iexists f
  isplitr; · ipureintro; rfl
  iexact H
theorem owns_A2 (f : Vec F S1024x1024 .f32) : (owns c A2 fullShare f : sProp 𝕄) ⊢ mptAny (F := F) A2 c := by
  unfold owns
  iintro ⟨%g, -, H⟩
  iexists g
  iexact H
theorem A2_owns (f : Vec F S1024x1024 .f32) : mpt A2 c fullShare f ⊢ (owns c A2 fullShare f : sProp 𝕄) := by
  unfold owns
  iintro H
  iexists f
  isplitr; · ipureintro; rfl
  iexact H

/-- The region's body is the steps. -/
theorem body_is : (defs₀ (F := F)) .tc cfg0.body (cfg0.bodyArgs t0_0 (cfg0.slots t0_0)) = bodyP (F := F) A0 A2 := body_eq t0_0
theorem Φ_first : (dat V c).Φ t0_0.castSucc = start (actOf V) (wgtOf V) c := by
  show (if (t0_0.castSucc : Fin (cfg0.N + 1)).val = 0 then start (actOf V) (wgtOf V) c else finish (wgtOf V) c) = _; exact if_pos rfl
theorem Φ_last : (dat V c).Φ t0_0.succ = finish (wgtOf V) c := by
  show (if (t0_0.succ : Fin (cfg0.N + 1)).val = 0 then start (actOf V) (wgtOf V) c else finish (wgtOf V) c) = _
  exact if_neg (Nat.succ_ne_zero _)

theorem after0 : (dat V c).after 0 t0_0 = actOf V c := rfl
theorem after1 : (dat V c).after 1 t0_0 = outF (actOf V) (wgtOf V) c := rfl

theorem body : BodyObligation (dat V c) (defs₀ (F := F)) 𝒱₀ () Set.univ := fun t => by
  obtain rfl := fin_N0 t
  rw [bigSep_W0, bigSep_W0, body_is, Φ_first, Φ_last]
  dsimp only
  rw [after0, after1]
  iintro ⟨HΦ, HO, ⟨%d0, H0⟩, ⟨%d1, H1⟩⟩
  ihave HO := (owes_out V c (owed0 c) _ (owed_first V c)) $$ HO
  rw [before0]
  iapply (run (actOf V) (wgtOf V) c _) $$ [HΦ HO H0 H1]
  · isplitl [HΦ]; · iexact HΦ
    isplitl [HO]; · iexact HO
    isplitl [H0]; · iapply (owns_A0 c _); iexact H0
    iapply (owns_A2 c _); iexact H1
  unfold owesE
  iintro ⟨HΦ, ⟨%W, HO⟩, H0, H1⟩
  isplitl [HΦ]; · iexact HΦ
  isplitl [HO]; · iapply (owes_in V c 0 t0_0.succ (owed_last V c) W); iexact HO
  isplitl [H0]; · iapply (A0_owns c _); iexact H0
  iapply (A2_owns c _); iexact H1

end Body

end Cert.KernelIdeal.Run

end
-- ==== Proof.Region.lean ====
/- The kernel's call as a segment of the program. -/
module

public import proofs.«01_k».proof.Proof.Run
public import Idealize.ShloMosaic.Lib.Pipeline.RegionTalk

@[expose] public section

set_option backward.proofsInPublic true

noncomputable section

namespace Cert.KernelIdeal.Region

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen Cert.KernelIdeal.Steps Cert.KernelIdeal.Proto Cert.KernelIdeal.Pieces Cert.KernelIdeal.Moves
open Cert.KernelIdeal.Chunks Cert.KernelIdeal.Blocks Cert.KernelIdeal.Cuts Cert.KernelIdeal.Cells Cert.KernelIdeal.Run

variable {F : FTy → Type} [FloatOps F]

local notation "𝕄" => MT nD τ sig Unit (Elt F) ℕ UU ℕ

variable (V : Dev nD → Valuation τ sig (Elt F))

/-- The buffers after the call. -/
def after (c : Dev nD) : Valuation τ sig (Elt F) := Function.update (V c) main_v17 (outF (actOf V) (wgtOf V) c)
theorem after_v17 (c : Dev nD) : after V c main_v17 = outF (actOf V) (wgtOf V) c := Function.update_self ..
theorem after_ne (c : Dev nD) (b : DevRef τ sig) (h : b ≠ Proc.devRef .tc main_v17) : after V c b = V c b := Function.update_of_ne h ..
theorem after_ref (c : Dev nD) (r : Ref sig .tc) (h : r ≠ main_v17) : after V c r = V c r := after_ne V c _ (StableHlo.devRef_ne_of_ne h)

/-- The region's data, as the launch takes it. -/
abbrev pdats : (p : Fin 1) → (c : Dev nD) → Dat τ (Elt F) Unit ℕ UU ℕ (Pipeline.pin (pcfgs (F := F)) adm p) c := fun _ c => dat V c

/-! ## The arrays at the end -/

theorem emb1 (t : Fin cfg0.N) (x : S1024x1024.Idx) : (win0_1.blk t).view.emb x = x := by
  funext a
  refine Fin.ext ?_
  show 0 * S1024x1024.size a + 1 * (x a).val = (x a).val
  omega

theorem arr0 (c : Dev nD) (n : ℕ) : (dat V c).arrAt 0 n = V c main_v16 := Dat.arrAt_in _ 0 rfl n
theorem arr1 (c : Dev nD) : (dat V c).arrAt 1 cfg0.N = outF (actOf V) (wgtOf V) c := by
  refine Dat.arrAt_eq_of_cover (dat V c) 1 (outF (actOf V) (wgtOf V) c) (fun t _ => ?_) fun i => ⟨t0_0, flush0_1 t0_0, ?_⟩
  · funext x
    show outF (actOf V) (wgtOf V) c x = outF (actOf V) (wgtOf V) c ((win0_1.blk t).view.emb x)
    rw [emb1]
  · have h := View.emb_mem_set (win0_1.blk t0_0).view (i : S1024x1024.Idx)
    rw [emb1] at h
    exact h

theorem arr_first (c : Dev nD) (w : Fin 2) : (dat V c).arrAt w 0 = V c (Proc.devRef .tc (Pipeline.arrRef spec0 w)) := by
  fin_cases w <;> rfl
theorem arr_last (c : Dev nD) (w : Fin 2) : (dat V c).arrAt w cfg0.N = after V c (Proc.devRef .tc (Pipeline.arrRef spec0 w)) := by
  fin_cases w
  · exact (arr0 V c _).trans (after_ref V c main_v16 (by decide)).symm
  · exact (arr1 V c).trans (after_v17 V c).symm

/-! ## The levels -/

theorem owed0_pos (c : Dev nD) (g : GSem nD τ sig) (u : Unit) (h : 0 < owed0 c g u) :
    (∃ a, g = barCell (nbr a c)) ∨ ∃ e : PC, g = recvCell (peer e c) e := by
  have h' : 0 < owedL c ords g u + tallyAt (barCell (nbr 2 c)) () 1 g u + tallyAt (barCell (nbr 1 c)) () 1 g u + tallyAt (barCell (nbr 0 c)) () 1 g u := h
  simp only [tallyAt_apply, and_true] at h'
  by_cases h0 : g = barCell (nbr 0 c)
  · exact .inl ⟨0, h0⟩
  by_cases h1 : g = barCell (nbr 1 c)
  · exact .inl ⟨1, h1⟩
  by_cases h2 : g = barCell (nbr 2 c)
  · exact .inl ⟨2, h2⟩
  rw [if_neg h0, if_neg h1, if_neg h2] at h'
  obtain ⟨e, _, he⟩ := owedL_pos c ords g u h'
  exact .inr ⟨e, he⟩

theorem cutD (c : Dev nD) (t : Fin (cfg0.N + 1)) (g : GSem nD τ sig) (u : Unit) (h : 0 < (dat V c).owed t g u) : u ∈ L g ∧ (0 : ℕ) < lv g u := by
  have e : (dat V c).owed t = if t.val = 0 then owed0 c else 0 := rfl
  rw [e] at h
  split at h
  · rcases owed0_pos c g u h with ⟨a, rfl⟩ | ⟨e, rfl⟩
    · exact ⟨by rw [L_tc]; exact Finset.mem_singleton_self _, by show 0 < lvK (kind (.reg barS)); rw [kind_bar]; exact Nat.one_pos⟩
    · exact ⟨by rw [L_tc]; exact Finset.mem_singleton_self _, by show 0 < lvK (kind (.dma (recvS e))); rw [kind_recv]; exact Nat.lt_of_lt_of_le (by decide) (Nat.le_add_right 2 _)⟩
  · exact absurd h (Nat.lt_irrefl 0)

theorem staging_lv (w : Fin 2) (s : Fin (spec0 w).nbuf) : lvK (kind (.dma ((spec0 w).sem s))) ≤ 0 := by
  revert s
  fin_cases w <;> decide

/-! ## Entry and exit -/

/-- What the region addresses itself: the weights. -/
abbrev own : Finset (DevRef τ sig) := {Proc.devRef .tc main_arg1}
/-- The unscoped buffers that are no array of it. -/
abbrev rest : Finset (DevRef τ sig) := Pipeline.ucRefs τ sig \ Pipeline.arrRefs (τ := τ) spec0

theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩
theorem mem_arr (b : DevRef τ sig) (h : b ∈ Pipeline.arrRefs (τ := τ) spec0) : b = Proc.devRef .tc main_v16 ∨ b = Proc.devRef .tc main_v17 := by
  obtain ⟨r, hr, rfl⟩ := Finset.mem_map.mp h
  obtain ⟨w, -, rfl⟩ := Finset.mem_image.mp hr
  fin_cases w
  · exact .inl rfl
  · exact .inr rfl
theorem arr_mem : Proc.devRef .tc main_v17 ∈ Pipeline.arrRefs (τ := τ) spec0 :=
  Finset.mem_map.mpr ⟨main_v17, Finset.mem_image.mpr ⟨1, Finset.mem_univ _, rfl⟩, rfl⟩
theorem own_rest : own ⊆ rest := fun b hb => by
  obtain rfl := Finset.mem_singleton.mp hb
  refine Finset.mem_sdiff.mpr ⟨mem_uc main_arg1 (by decide), fun h => ?_⟩
  rcases mem_arr _ h with h | h
  · exact StableHlo.devRef_ne_of_ne (by decide) h
  · exact StableHlo.devRef_ne_of_ne (by decide) h
theorem after_rest (c : Dev nD) (b : DevRef τ sig) (hb : b ∈ rest) : after V c b = V c b :=
  after_ne V c b fun h => (Finset.mem_sdiff.mp hb).2 (h ▸ arr_mem)

theorem held_own (c : Dev nD) (W : Valuation τ sig (Elt F)) :
    (StableHlo.held (c : Thread nD τ) own W : sProp 𝕄) = iprop(((c : Thread nD τ).loc main_arg1) ↦{fullShare} (W main_arg1)) := by
  unfold StableHlo.held
  exact BI.bigSep_singleton

/-- What the launch keeps for the region. -/
def kept (c : Dev nD) : sProp 𝕄 := iprop(∃ K, records (actOf V) (wgtOf V) K ∗ linear (F := F) c ∗ creds (F := F) c)

theorem hopen (c : Dev nD) : iprop(kept V c ∗ Pipeline.ownSems0 osem c ∗ levAts L lv) ⊢ (|={Set.univ}=> ∃ K, entered (actOf V) (wgtOf V) K c : sProp 𝕄) := by
  unfold kept
  iintro ⟨⟨%K, HR, Hl, Hc⟩, Hs, HL⟩
  imod (enter (actOf V) (wgtOf V) K c) $$ [HR Hl Hc Hs HL] with H
  · isplitl [HR Hl Hc]
    · isplitl [HR]; · iexact HR
      isplitl [Hl] <;> iassumption
    isplitl [Hs] <;> iassumption
  imodintro
  iexists K
  iexact H

theorem hin (c : Dev nD) : iprop(Pipeline.scopedRest spec0 c ∗ (∃ r, prngReg c r) ∗ StableHlo.held (c.tc : Thread nD τ) own (V c) ∗ ∃ K, entered (actOf V) (wgtOf V) K c)
    ⊢ (start (actOf V) (wgtOf V) c : sProp 𝕄) := by
  rw [held_own, scopedRest0_eq]
  unfold start scratch
  iintro ⟨Hs, Hp, HW, HE⟩
  isplitl [HE]; · iexact HE
  isplitl [Hs]; · iexact Hs
  isplitl [HW]; · iexact HW
  iexact Hp

theorem hout (c : Dev nD) : (finish (wgtOf V) c : sProp 𝕄)
    ⊢ iprop(Pipeline.scopedRest spec0 c ∗ (∃ r, prngReg c r) ∗ StableHlo.held (c.tc : Thread nD τ) own (after V c) ∗ Pipeline.ownSems0 osem c ∗ semVal (barCell c) 0) := by
  rw [held_own, scopedRest0_eq, after_ref V c main_arg1 (by decide)]
  unfold finish scratch
  iintro ⟨⟨Hb, Ho⟩, Hs, HW, Hp⟩
  isplitl [Hs]; · iexact Hs
  isplitl [Hp]; · iexact Hp
  isplitl [HW]; · iexact HW
  isplitl [Ho]; · iexact Ho
  iexact Hb

theorem Φ_zero (c : Dev nD) : (dat V c).Φ 0 = start (actOf V) (wgtOf V) c := by
  show (if ((0 : Fin (cfg0.N + 1)).val = 0) then start (actOf V) (wgtOf V) c else finish (wgtOf V) c) = _; exact if_pos rfl
theorem Φ_end (c : Dev nD) : (dat V c).Φ (Fin.last _) = finish (wgtOf V) c := by
  show (if ((Fin.last cfg0.N).val = 0) then start (actOf V) (wgtOf V) c else finish (wgtOf V) c) = _
  rw [Fin.val_last, if_neg (by rw [show cfg0.N = 1 from N_0]; decide)]
theorem owed_zero (c : Dev nD) : (dat V c).owed 0 = 0 + owed0 c := by
  rw [zero_add]
  show (if ((0 : Fin (cfg0.N + 1)).val = 0) then owed0 c else 0) = owed0 c; exact if_pos rfl
theorem own_facts : Pipeline.OwnSemFacts spec0 osem := by decide

set_option backward.isDefEq.respectTransparency.types false in
/-- The region. -/
def region : Pipeline.RegionSeg (pcfgs (F := F)) adm (pdats V) () (defs₀ (F := F)) 𝒱₀ L lv 0 :=
  Pipeline.RegionSeg.ofTalk (pcfgs (F := F)) adm (pdats V) () (defs₀ (F := F)) 𝒱₀ L lv 0 osem own_facts
    own rest own_rest launch0.toP rfl (fun c => (body V c).loose)
    (fun _ => 0) owed0 (owed_zero V) (owed_last V) (fun _ => rfl) (fun c w => by unfold Dat.share; split <;> rfl)
    V (after V) (fun c b hb => after_rest V c b (Finset.mem_sdiff.mp hb).1)
    (kept V) (fun c => semVal (barCell c) 0) (fun c => iprop(∃ K, entered (actOf V) (wgtOf V) K c)) (fun c => semVal (barCell c) 0) (hopen V)
    (fun c => (hin V c).trans (Entails.of_eq (Φ_zero V c).symm)) (fun c => (Entails.of_eq (Φ_end V c)).trans (hout V c))
    (fun c => by iintro H; imodintro; iexact H)
    (fun _ => 0)
    ⟨fun c w s => by rw [L_tc]; exact Finset.mem_singleton_self _, fun c w s => staging_lv w s, fun c t g i h => cutD V c t g i h⟩
    (fun _ => iprop(emp))
    (arr_first V) (arr_last V)

theorem region_pre (c : Dev nD) : iprop(StableHlo.held (c : Thread nD τ) (Pipeline.ucRefs τ sig) (V c) ∗ kept V c ∗ (∃ r, prngReg c r) ∗ ∃ W, owes (c : Thread nD τ) (owed0 c) W)
    ⊢ (region V).pre c := by
  show _ ⊢ iprop(StableHlo.held (c.tc : Thread nD τ) (Pipeline.arrRefs (τ := τ) spec0) (V c) ∗ (∃ r, prngReg c r)
    ∗ (StableHlo.held (c.tc : Thread nD τ) rest (V c) ∗ emp) ∗ kept V c ∗ ∃ Wd, owes (c : Thread nD τ) (0 + owed0 c) Wd)
  rw [zero_add, StableHlo.held_sub_split (c.tc : Thread nD τ) (Pipeline.arrRefs_sub_ucRefs spec0 winFacts0.arr_unscoped) (V c)]
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

theorem region_post (c : Dev nD) : (region V).post c
    ⊢ iprop(StableHlo.held (c : Thread nD τ) (Pipeline.ucRefs τ sig) (after V c) ∗ semVal (barCell c) 0 ∗ ∃ W, owes (c : Thread nD τ) (0 : CellTallies nD τ sig Unit) W) := by
  show iprop(StableHlo.held (c.tc : Thread nD τ) (Pipeline.arrRefs (τ := τ) spec0) (after V c) ∗ (∃ r, prngReg c r)
    ∗ (StableHlo.held (c.tc : Thread nD τ) rest (after V c) ∗ emp) ∗ semVal (barCell c) 0 ∗ ∃ Wd, owes (c : Thread nD τ) (0 : CellTallies nD τ sig Unit) Wd) ⊢ _
  rw [StableHlo.held_sub_split (c.tc : Thread nD τ) (Pipeline.arrRefs_sub_ucRefs spec0 winFacts0.arr_unscoped) (after V c)]
  iintro ⟨Ha, -, ⟨Hr, -⟩, Hb, HO⟩
  isplitl [Ha Hr]
  · isplitl [Ha] <;> iassumption
  isplitl [Hb]; · iexact Hb
  iexact HO

end Cert.KernelIdeal.Region

end
-- ==== Proof.Fund.lean ====
/- The launch's ghost state, dealt to the devices. -/
module

public import proofs.«01_k».proof.Proof.Region
public import Idealize.ShloMosaic.Lib.SparseCore.Launch

@[expose] public section

set_option backward.proofsInPublic true

noncomputable section

namespace Cert.KernelIdeal.Fund

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps Cert.KernelIdeal.Proto Cert.KernelIdeal.Pieces Cert.KernelIdeal.Moves
open Cert.KernelIdeal.Blocks Cert.KernelIdeal.Cuts Cert.KernelIdeal.Cells Cert.KernelIdeal.Run

variable {F : FTy → Type} [FloatOps F]

local notation "𝕄" => MT nD τ sig Unit (Elt F) ℕ UU ℕ

/-! ## The cells -/

theorem dev_eq {c c' : Dev nD} (h : (c : Thread nD τ) = (c' : Thread nD τ)) : c = c' := congrArg (fun t : Thread nD τ => t.1) h
theorem bar_inj : Function.Injective barCell := fun _ _ h => dev_eq (congrArg Prod.fst h)
theorem osem_inj : Function.Injective osem := by decide +kernel
theorem own_inj : Function.Injective fun x : Dev nD × Fin 82 => (((x.1 : Thread nD τ), osem x.2) : GSem nD τ sig) :=
  fun _ _ h => Prod.ext (dev_eq (congrArg Prod.fst h)) (osem_inj (congrArg Prod.snd h))
theorem osem_ne : ∀ i : Fin 82, osem i ≠ .reg barS := by decide +kernel
theorem cells_disj : Disjoint barCells ownCells := by
  rw [Finset.disjoint_left]
  intro g h h'
  obtain ⟨c, -, rfl⟩ := Finset.mem_image.mp h
  obtain ⟨x, -, h'⟩ := Finset.mem_image.mp h'
  exact osem_ne x.2 (congrArg Prod.snd h')

/-! ## The tokens -/

abbrev Tok : Type := GSem nD τ sig × ℕ × Fin 3
def barTok (x : Dev nD × Fin 3) : Tok := (barCell (nbr x.2 x.1), 0, x.2)
def copyTok (x : Dev nD × (Fin 2 × Fin 2)) : Tok := (copyCell x.1 x.2.1, x.2.2.val, 0)
def sendTok (x : Dev nD × PC) : Tok := (sendCell x.1 x.2, 0, 0)
def recvTok (x : Dev nD × PC) : Tok := (recvCell (peer x.2 x.1) x.2, 0, 0)

/-- What a token's cell is for. -/
def role (t : Tok) : Role := kind t.1.2
theorem role_bar (x : Dev nD × Fin 3) : role (barTok x) = .bar := kind_bar
theorem role_copy (x : Dev nD × (Fin 2 × Fin 2)) : role (copyTok x) = .copy x.2.1 := kind_copy _
theorem role_send (x : Dev nD × PC) : role (sendTok x) = .send x.2 := kind_send _
theorem role_recv (x : Dev nD × PC) : role (recvTok x) = .recv x.2 := kind_recv _

theorem tok_dev {t t' : Tok} (h : t = t') : t.1.1.1 = t'.1.1.1 := by rw [h]
theorem barTok_inj : Function.Injective barTok := fun x y h => by
  obtain ⟨c, a⟩ := x
  obtain ⟨c', a'⟩ := y
  obtain rfl : a = a' := congrArg (fun t : Tok => t.2.2) h
  have hc : nbr a c = nbr a c' := tok_dev h
  rw [← nbr_nbr a c, hc, nbr_nbr]
theorem copyTok_inj : Function.Injective copyTok := fun x y h => by
  have hs : Role.copy x.2.1 = Role.copy y.2.1 := (role_copy x).symm.trans ((congrArg role h).trans (role_copy y))
  have hr : x.2.2.val = y.2.2.val := congrArg (fun t : Tok => t.2.1) h
  exact Prod.ext (tok_dev h) (Prod.ext (Role.copy.inj hs) (Fin.ext hr))
theorem sendTok_inj : Function.Injective sendTok := fun x y h =>
  Prod.ext (tok_dev h) (Role.send.inj ((role_send x).symm.trans ((congrArg role h).trans (role_send y))))
theorem recvTok_inj : Function.Injective recvTok := fun x y h => by
  have he := Role.recv.inj ((role_recv x).symm.trans ((congrArg role h).trans (role_recv y)))
  obtain ⟨c, e⟩ := x
  obtain ⟨c', e'⟩ := y
  obtain rfl : e = e' := he
  have hc : peer e c = peer e c' := tok_dev h
  rw [← peer_peer e c, hc, peer_peer]

theorem apart {α β : Type} [Fintype α] [Fintype β] (f : α → Tok) (g : β → Tok) (h : ∀ x y, role (f x) ≠ role (g y)) :
    Disjoint (Finset.univ.image f) (Finset.univ.image g) := by
  rw [Finset.disjoint_left]
  intro t h1 h2
  obtain ⟨x, -, rfl⟩ := Finset.mem_image.mp h1
  obtain ⟨y, -, h2⟩ := Finset.mem_image.mp h2
  exact h x y (congrArg role h2).symm

/-- Every token. -/
def allToks : Finset Tok := Finset.univ.image barTok ∪ (Finset.univ.image copyTok ∪ (Finset.univ.image sendTok ∪ Finset.univ.image recvTok))

theorem send_recv : Disjoint (Finset.univ.image sendTok) (Finset.univ.image recvTok) :=
  apart _ _ fun x y h => by rw [role_send, role_recv] at h; cases h
theorem copy_send : Disjoint (Finset.univ.image copyTok) (Finset.univ.image sendTok) :=
  apart _ _ fun x y h => by rw [role_copy, role_send] at h; cases h
theorem copy_recv : Disjoint (Finset.univ.image copyTok) (Finset.univ.image recvTok) :=
  apart _ _ fun x y h => by rw [role_copy, role_recv] at h; cases h
theorem bar_copy : Disjoint (Finset.univ.image barTok) (Finset.univ.image copyTok) :=
  apart _ _ fun x y h => by rw [role_bar, role_copy] at h; cases h
theorem bar_send : Disjoint (Finset.univ.image barTok) (Finset.univ.image sendTok) :=
  apart _ _ fun x y h => by rw [role_bar, role_send] at h; cases h
theorem bar_recv : Disjoint (Finset.univ.image barTok) (Finset.univ.image recvTok) :=
  apart _ _ fun x y h => by rw [role_bar, role_recv] at h; cases h
theorem disj_copy : Disjoint (Finset.univ.image copyTok) (Finset.univ.image sendTok ∪ Finset.univ.image recvTok) :=
  Finset.disjoint_union_right.mpr ⟨copy_send, copy_recv⟩
theorem disj_bar : Disjoint (Finset.univ.image barTok) (Finset.univ.image copyTok ∪ (Finset.univ.image sendTok ∪ Finset.univ.image recvTok)) :=
  Finset.disjoint_union_right.mpr ⟨bar_copy, Finset.disjoint_union_right.mpr ⟨bar_send, bar_recv⟩⟩

/-- Each device's tokens out of all of them. -/
theorem toks_eq : bigSep allToks (fun x => (dutyTok ER x.1 x.2.1 x.2.2 : sProp 𝕄)) = bigSep Finset.univ fun c : Dev nD => toks c := by
  unfold allToks toks
  rw [BI.bigSep_union disj_bar, BI.bigSep_union disj_copy, BI.bigSep_union send_recv, bigSep_image_of_injOn (Function.Injective.injOn barTok_inj),
    bigSep_image_of_injOn (Function.Injective.injOn copyTok_inj), bigSep_image_of_injOn (Function.Injective.injOn sendTok_inj),
    bigSep_image_of_injOn (Function.Injective.injOn recvTok_inj), bigSep_univ_prod, bigSep_univ_prod, bigSep_univ_prod, bigSep_univ_prod]
  refine (zip4 _ _ _ _).symm.trans ?_
  refine BI.bigSep_congr fun c _ => ?_
  rw [bigSep_univ_prod, BI.bigSep_fin_two, BI.bigSep_fin_two, BI.bigSep_fin_two]
  rfl

/-! ## The credit -/

theorem recv_ne_bar (e : PC) : (SemLoc.dma (recvS e) : SemLoc sig) ≠ .reg barS := fun h => by cases h
theorem nbr_iff (a : Fin 3) (c d : Dev nD) : c = nbr a d ↔ d = nbr a c :=
  ⟨fun h => by rw [h, nbr_nbr], fun h => by rw [h, nbr_nbr]⟩
theorem peer_iff (e : PC) (c d : Dev nD) : c = peer e d ↔ d = peer e c :=
  ⟨fun h => by rw [h, peer_peer], fun h => by rw [h, peer_peer]⟩

theorem owedL_bar (d c : Dev nD) : owedL d ords (barCell c) () = 0 := by
  refine Nat.eq_zero_of_not_pos fun h => ?_
  obtain ⟨e, -, he⟩ := owedL_pos d ords _ _ h
  exact recv_ne_bar e (congrArg Prod.snd he).symm
theorem owedL_recv (d c : Dev nD) (e : PC) (l : List PC) : owedL d l (recvCell c e) () = l.count e * if d = peer e c then amtE e else 0 := by
  induction l with
  | nil => rw [List.count_nil, Nat.zero_mul]; rfl
  | cons e' l ih =>
    show owedL d l (recvCell c e) () + tallyAt (recvCell (peer e' d) e') () (amtE e') (recvCell c e) () = _
    rw [ih, List.count_cons, tallyAt_apply, Nat.add_mul]
    refine congrArg _ ?_
    by_cases he : e' = e
    · subst he
      rw [if_pos (beq_self_eq_true _), Nat.one_mul]
      refine if_congr ⟨fun h => (peer_iff e' c d).mp (dev_eq (congrArg Prod.fst h.1)), fun h => ⟨by rw [h, peer_peer], rfl⟩⟩ rfl rfl
    · rw [if_neg (fun h => he (eq_of_beq h)), Nat.zero_mul]
      refine if_neg fun h => he ?_
      have h' := congrArg (fun g : GSem nD τ sig => kind g.2) h.1
      simp only [kind_recv] at h'
      exact (Role.recv.inj h').symm
theorem ords_once : ∀ e : PC, ords.count e = 1 := by decide +kernel

theorem tally_bar (a : Fin 3) (d c : Dev nD) : (tallyAt (barCell (nbr a d)) () 1 : CellTallies nD τ sig Unit) (barCell c) () = if d = nbr a c then 1 else 0 := by
  rw [tallyAt_apply]
  exact if_congr ⟨fun h => (nbr_iff a c d).mp (bar_inj h.1), fun h => ⟨by rw [h, nbr_nbr], rfl⟩⟩ rfl rfl
theorem tally_other (a : Fin 3) (d c : Dev nD) (e : PC) : (tallyAt (barCell (nbr a d)) () 1 : CellTallies nD τ sig Unit) (recvCell c e) () = 0 := by
  rw [tallyAt_apply]
  exact if_neg fun h => recv_ne_bar e (congrArg Prod.snd h.1)

theorem owed_bar (d c : Dev nD) : owed0 d (barCell c) ()
    = (((if d = nbr 2 c then 1 else 0) + (if d = nbr 1 c then 1 else 0)) + if d = nbr 0 c then 1 else 0 : ℕ) := by
  show owedL d ords (barCell c) () + (tallyAt (barCell (nbr 2 d)) () 1 : CellTallies nD τ sig Unit) (barCell c) ()
    + (tallyAt (barCell (nbr 1 d)) () 1 : CellTallies nD τ sig Unit) (barCell c) () + (tallyAt (barCell (nbr 0 d)) () 1 : CellTallies nD τ sig Unit) (barCell c) () = _
  rw [owedL_bar, tally_bar, tally_bar, tally_bar, Nat.zero_add]
theorem owed_recv (d c : Dev nD) (e : PC) : owed0 d (recvCell c e) () = if d = peer e c then amtE e else 0 := by
  show owedL d ords (recvCell c e) () + (tallyAt (barCell (nbr 2 d)) () 1 : CellTallies nD τ sig Unit) (recvCell c e) ()
    + (tallyAt (barCell (nbr 1 d)) () 1 : CellTallies nD τ sig Unit) (recvCell c e) () + (tallyAt (barCell (nbr 0 d)) () 1 : CellTallies nD τ sig Unit) (recvCell c e) () = _
  rw [owedL_recv, tally_other, tally_other, tally_other, ords_once, Nat.one_mul]; rfl

theorem launch_bar (c : Dev nD) :
    tallyOn (barCell c) (launchCredit (Pipeline.owing owed0) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib, Finset.sum_add_distrib,
    Finset.sum_ite_eq', Finset.sum_ite_eq', Finset.sum_ite_eq', if_pos (Finset.mem_univ _), if_pos (Finset.mem_univ _), if_pos (Finset.mem_univ _)]
theorem launch_recv (c : Dev nD) (e : PC) :
    tallyOn (recvCell c e) (launchCredit (Pipeline.owing owed0) 0 (recvCell c e)) = (tallyAt (recvCell c e) () (amtE e) : CellTallies nD τ sig Unit) := by
  unfold tallyAt
  refine congrArg _ (Finsupp.ext fun u => ?_)
  cases u
  rw [Pipeline.launchCredit_owing, Finsupp.single_eq_same, Finset.sum_congr rfl fun d _ => owed_recv d c e, Finset.sum_ite_eq', if_pos (Finset.mem_univ _)]

theorem recvS_inj : Function.Injective fun e : PC => (SemLoc.dma (recvS e) : SemLoc sig) := fun e e' h => by
  have h' := congrArg kind h
  simp only [kind_recv] at h'
  exact Role.recv.inj h'

theorem credit (c : Dev nD) : (Pipeline.launchCred owed0 c : sProp 𝕄) ⊢ creds c := by
  unfold Pipeline.launchCred creds
  rw [bigSep_univ_at _ (SemLoc.reg barS), launch_bar]
  refine sep_mono_right ?_
  refine (BI.bigSep_subset (t := Finset.univ.image fun e : PC => (SemLoc.dma (recvS e) : SemLoc sig)) fun s hs => ?_).trans ?_
  · obtain ⟨e, -, rfl⟩ := Finset.mem_image.mp hs
    exact Finset.mem_erase.mpr ⟨recv_ne_bar e, Finset.mem_univ _⟩
  · rw [bigSep_image_of_injOn (Function.Injective.injOn recvS_inj)]
    exact Entails.of_eq (BI.bigSep_congr fun e _ => by rw [launch_recv])

end Cert.KernelIdeal.Fund

end
-- ==== Proof.Launch.lean ====
/- The program's run: from any memory, to the kernel's output on every device. -/
module

public import proofs.«01_k».proof.Proof.Fund

@[expose] public section

set_option backward.proofsInPublic true

noncomputable section

namespace Cert.KernelIdeal.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal.Gen Cert.KernelIdeal.Steps Cert.KernelIdeal.Proto Cert.KernelIdeal.Pieces Cert.KernelIdeal.Moves
open Cert.KernelIdeal.Blocks Cert.KernelIdeal.Cuts Cert.KernelIdeal.Cells Cert.KernelIdeal.Run Cert.KernelIdeal.Region Cert.KernelIdeal.Fund

variable {F : FTy → Type} [FloatOps F]

local notation "𝕄" => MT nD τ sig Unit (Elt F) ℕ UU ℕ

variable (m : (ℓ : Loc nD τ sig) → Buf (Elt F) ℓ) (ρ : Dev nD → PrngReg)

/-- What the kernel's call finds. -/
abbrev VA : Dev nD → Valuation τ sig (Elt F) := V1 m
/-- What the kernel leaves. -/
def result (c : Dev nD) : Vec F S1024x1024 .f32 := outF (actOf (VA m)) (wgtOf (VA m)) c

/-- The launch's element: the pipeline's, the protocol's. -/
def u₀ : UU := (initOf (Pipeline.cells cfgs cellOf_inj) (Pipeline.launchToks cfgs cellOf_inj), launchOf barCells ownCells allToks)
/-- The protocol's element, held at device 0 until it is dealt. -/
def G (c : Dev nD) : sProp 𝕄 := if c = 0 then BI.own (ER (launchOf barCells ownCells allToks)) else iprop(emp)
theorem G_all : bigSep Finset.univ (G (F := F)) = BI.own (ER (launchOf barCells ownCells allToks)) := by
  rw [bigSep_univ_at _ 0, BI.bigSep_congr (s := Finset.univ.erase 0) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

/-- What rides along the two segments. -/
def rides : Fin 2 → Dev nD → sProp 𝕄
  | 0, c => iprop(kept (VA m) c ∗ (∃ r, prngReg c r) ∗ ∃ W, owes (c : Thread nD τ) (owed0 c) W)
  | 1, c => iprop(semVal (barCell c) 0 ∗ ∃ W, owes (c : Thread nD τ) (0 : CellTallies nD τ sig Unit) W)

/-- What a core holds before the protocol's state is dealt. -/
def bare (c : Dev nD) : sProp 𝕄 :=
  iprop(StableHlo.held (c : Thread nD τ) (Pipeline.ucRefs τ sig) (V0 m c) ∗ creds (F := F) c ∗ owes (c : Thread nD τ) (owed0 c) ∅ ∗ ∃ r, prngReg c r)
/-- What it holds as its program starts. -/
abbrev T₀ (c : Dev nD) : sProp 𝕄 := iprop(StableHlo.held (c : Thread nD τ) (Pipeline.ucRefs τ sig) (V0 m c) ∗ rides m 0 c)
/-- What it holds at the end. -/
abbrev Tₙ (c : Dev nD) : sProp 𝕄 := iprop(StableHlo.held (c : Thread nD τ) (Pipeline.ucRefs τ sig) (after (VA m) c) ∗ semVal (barCell c) 0)

theorem counters (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]
theorem unscoped_eq : ∀ sm : SemLoc sig, sm.isScoped .tc = false → sm = .reg barS := by decide +kernel

theorem core (c : Dev nD) : iprop(unscopedBufs c (fun b => m ((c : Thread nD τ).loc b)) ∗ unscopedSems0 c ∗ owes (c : Thread nD τ) (owed0 c) ∅
      ∗ Pipeline.launchCred owed0 c ∗ prngReg c (ρ c) ∗ G c)
    ⊢ (iprop(bare m c ∗ semVal (barCell c) 0 ∗ G c) : sProp 𝕄) := by
  rw [show unscopedBufs c (fun b => m ((c : Thread nD τ).loc b)) = StableHlo.held (c : Thread nD τ) (Pipeline.ucRefs τ sig) (V0 m c) from
    Pipeline.unscopedBufs_held (Ix := Unit) (Name := ℕ) (U := UU) (Lvl := ℕ) c (V0 m c), counters]
  unfold bare
  iintro ⟨Hh, Hs, HO, Hc, Hp, HG⟩
  ihave Hc := (credit (F := F) c) $$ Hc
  isplitl [Hh Hc HO Hp]
  · isplitl [Hh]; · iexact Hh
    isplitl [Hc]; · iexact Hc
    isplitl [HO]; · iexact HO
    iexists (ρ c); iexact Hp
  isplitl [Hs] <;> iassumption

theorem deal (K : GSem nD τ sig → ℕ) (c : Dev nD) : iprop(records (actOf (VA m)) (wgtOf (VA m)) K ∗ (linear c ∗ bare m c)) ⊢ T₀ m c := by
  unfold bare T₀ rides kept
  iintro ⟨#HR, Hl, Hh, Hc, HO, Hp⟩
  isplitl [Hh]; · iexact Hh
  isplitl [Hl Hc]
  · iexists K
    isplitr; · iexact HR
    isplitl [Hl] <;> iassumption
  isplitl [Hp]; · iexact Hp
  iexists ∅; iexact HO

theorem to_cells (Φ : GSem nD τ sig → sProp 𝕄) : (bigSep Finset.univ fun c : Dev nD => Φ (barCell c)) = bigSep barCells Φ :=
  (bigSep_image_of_injOn (Function.Injective.injOn bar_inj) Φ).symm
theorem to_own (Φ : GSem nD τ sig → sProp 𝕄) : (bigSep Finset.univ fun c : Dev nD => bigSep Finset.univ fun i : Fin 82 => Φ ((c : Thread nD τ), osem i)) = bigSep ownCells Φ := by
  unfold ownCells
  rw [bigSep_image_of_injOn (Function.Injective.injOn own_inj), bigSep_univ_prod]
theorem bare_all : (bigSep Finset.univ fun c : Dev nD => iprop(bare m c ∗ semVal (barCell c) 0 ∗ G c))
    = (iprop((bigSep Finset.univ (bare m)) ∗ (bigSep barCells fun g => semVal g 0) ∗ BI.own (ER (launchOf barCells ownCells allToks))) : sProp 𝕄) := by
  rw [zip3, G_all, to_cells fun g => semVal g 0]
theorem linear_all : (iprop((bigSep barCells fun g => atPos ER g 0 ∅ 0) ∗ (bigSep ownCells fun g => openTok ER g) ∗ bigSep allToks fun x => dutyTok ER x.1 x.2.1 x.2.2) : sProp 𝕄)
    = bigSep Finset.univ (linear (F := F)) := by
  rw [← to_cells, ← to_own, toks_eq]
  exact (zip3 _ _ _).symm
theorem records_all (K : GSem nD τ sig → ℕ) : (iprop((bigSep (barCells ∪ ownCells) fun g => cellInv ER (Rd (actOf (VA m)) (wgtOf (VA m))) (K g) g) ∗ bigSep barCells fun g => reached ER g 0) : sProp 𝕄)
    = records (actOf (VA m)) (wgtOf (VA m)) K := by
  unfold records
  rw [to_cells fun g => reached ER g 0]

/-- The protocol's state on every cell. -/
theorem funded (X : (c : Dev nD) → Vec F S256x4096 .bf16) (Wt : (c : Dev nD) → Vec F S1024x4096 .f32) :
    (iprop((bigSep barCells fun g => semVal g 0) ∗ BI.own (ER (launchOf barCells ownCells allToks))) : sProp 𝕄)
    ⊢ |={Set.univ}=> ∃ K : GSem nD τ sig → ℕ, iprop((bigSep (barCells ∪ ownCells) fun g => cellInv ER (Rd X Wt) (K g) g) ∗ (bigSep barCells fun g => reached ER g 0)
      ∗ (bigSep barCells fun g => atPos ER g 0 ∅ 0) ∗ (bigSep ownCells fun g => openTok ER g) ∗ bigSep allToks fun x => dutyTok ER x.1 x.2.1 x.2.2) := by
  iintro H
  imod (Rounds.fund_launch ER (Rd X Wt) cells_disj (fun g _ h => h) allToks) $$ H with ⟨%K, -, Hi, Hr, Ha, Ho, Ht⟩
  imodintro
  iexists K
  isplitl [Hi]; · iexact Hi
  isplitl [Hr]; · iexact Hr
  isplitl [Ha]; · iexact Ha
  isplitl [Ho] <;> iassumption

theorem dealt (K : GSem nD τ sig → ℕ) : iprop(records (actOf (VA m)) (wgtOf (VA m)) K ∗ (bigSep Finset.univ (linear (F := F)) ∗ bigSep Finset.univ (bare m))) ⊢ bigSep Finset.univ (T₀ m) := by
  rw [← BI.bigSep_sep']
  exact bigSep_with_persistent (R := records (actOf (VA m)) (wgtOf (VA m)) K) (Φ := fun c => iprop(linear c ∗ bare m c)) fun c _ => deal m K c

/-- From what the launch gives to what each core starts with. -/
theorem init : iprop((bigSep Finset.univ fun c : Dev nD => iprop(unscopedBufs c (fun b => m ((c : Thread nD τ).loc b)) ∗ unscopedSems0 c ∗ owes (c : Thread nD τ) (owed0 c) ∅
      ∗ Pipeline.launchCred owed0 c ∗ prngReg c (ρ c) ∗ G c)) ∗ levAts L lv)
    ⊢ (|={Set.univ}=> bigSep Finset.univ (T₀ m) : sProp 𝕄) := by
  refine (sep_mono_left ((mono (core m ρ)).trans (Entails.of_eq (bare_all m)))).trans ?_
  generalize hB : bigSep Finset.univ (bare m) = B
  iintro ⟨⟨HB, Hvu⟩, -⟩
  imod (funded (actOf (VA m)) (wgtOf (VA m))) $$ Hvu with ⟨%K, Hi, Hr, Hs⟩
  imodintro
  ihave Hl := (Entails.of_eq (linear_all (F := F))) $$ Hs
  iapply (dealt m K)
  isplitl [Hi Hr]
  · iapply (Entails.of_eq (records_all m K))
    isplitl [Hi] <;> iassumption
  isplitl [Hl]; · iexact Hl
  rw [hB]
  iexact HB

theorem wgt_eq (c : Dev nD) : wgtOf (VA m) c = m ((c.tc : Thread nD τ).loc main_arg1) := V1_of m c main_arg1 (by decide)
theorem end_arg0 (c : Dev nD) : after (VA m) c main_arg0 = m ((c.tc : Thread nD τ).loc main_arg0) :=
  (after_ref (VA m) c main_arg0 (by decide)).trans (V1_of m c main_arg0 (by decide))
theorem end_arg1 (c : Dev nD) : after (VA m) c main_arg1 = m ((c.tc : Thread nD τ).loc main_arg1) :=
  (after_ref (VA m) c main_arg1 (by decide)).trans (wgt_eq m c)

set_option backward.isDefEq.respectTransparency.types false in
/-- Every execution ends, with the arguments kept, the kernel's output on each device and every counter at zero. -/
theorem run_main : θ_run defs (onTc (τ := τ) (Cert.KernelIdeal.main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v17) = result m c) ∧ r.2.sem = fun _ => 0) := by
  refine Pipeline.θ_run_regions_kit_dev_sems (pcfgs (F := F)) adm (pdats (VA m)) () cellOf_inj EP defs₀ 𝒱₀ L lv m ρ Cert.KernelIdeal.main
    (segs m 𝒱₀ L lv (rides m) () (pdats (VA m)) (region (VA m)))
    (fun c Q => by
      rewrite [main_chain c, Seg.run_eq_chain,
        show (segs m 𝒱₀ L lv (rides m) () (pdats (VA m)) (region (VA m)) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) owed0 L_of_ne (G (F := F)) u₀ ?_
    (T₀ := T₀ m) (Tₙ := Tₙ m)
    (hch := fun c => ⟨.rfl, region_pre (VA m) c, (region_post (VA m) c).trans ?_⟩)
    (hinit := init m ρ)
    (QY := fun c s => (s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v17) = result m c) ∧ s.sem (barCell c) = 0)
    (hfin := fun c s' => ?_) (hQ := fun s h hs => ⟨fun c => (h c).1, sem_eq_zero hs fun c sm hsm => by
      obtain rfl := unscoped_eq sm hsm
      exact (h c).2⟩)
  · unfold u₀
    iintro Hu
    ihave H := (ownU_pair _ _) $$ Hu
    icases H with ⟨HP, HX⟩
    imodintro
    isplitl [HP]; · iexact HP
    rw [G_all]; iexact HX
  · iintro ⟨Hh, Hb, HO⟩
    isplitr [HO]
    · isplitl [Hh] <;> iassumption
    · iexact HO
  · dsimp only [Tₙ]
    unfold StableHlo.held
    iintro ⟨⟨Hh, Hb⟩, HSI⟩
    icombine HSI Hb gives %hb
    ihave Hr := (pointsTo_read_all (Pipeline.ucRefs τ sig) (fun b => ((c : Thread nD τ).1, b)) (after (VA m) c) s') $$ [Hh HSI]
    · isplitl [Hh] <;> iassumption
    icases Hr with ⟨%h, HSI⟩
    imodintro
    isplitr
    · ipureintro
      exact ⟨⟨(h (Proc.devRef .tc main_arg0) (mem_uc main_arg0 (by decide))).trans (end_arg0 m c),
        (h (Proc.devRef .tc main_arg1) (mem_uc main_arg1 (by decide))).trans (end_arg1 m c),
        (h (Proc.devRef .tc main_v17) (mem_uc main_v17 (by decide))).trans (after_v17 (VA m) c)⟩, by simpa using hb⟩
    · iexact HSI

end Cert.KernelIdeal.Launch

end
-- ==== Proof.Frames.lean ====
/- The two programs' frames, from the one run. -/
module

public import proofs.«01_k».proof.Defs
public import proofs.«01_k».proof.Proof.Launch
public import proofs.«01_k».proof.Proof.Gen.Kernel

@[expose] public section

set_option backward.proofsInPublic true

noncomputable section

namespace Cert.Proof

open Idealize.ShloMosaic Idealize.SL.Sem

theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.KernelIdeal.Launch.run_main m ρ)

theorem frame_ideal : Cert.quiescent_KernelIdeal := fun m ρ _ => kept (F := Ideal) m ρ

/-- The two programs' bodies are the same text. -/
theorem bodies : (Cert.Kernel.defs₀ (F := Bits) : Defs Cert.KernelIdeal.nD Cert.KernelIdeal.τ Cert.KernelIdeal.sig (Elt Bits) Cert.KernelIdeal.Λ₀)
    = Cert.KernelIdeal.defs₀ (F := Bits) := by
  unfold Cert.Kernel.defs₀ Cert.KernelIdeal.defs₀
  refine congrArg Defs.onTc ?_
  funext l x
  match l, x with
  | 0, (t, s) => rfl

theorem tables : Cert.Kernel.defs (F := Bits) = Cert.KernelIdeal.defs (F := Bits) := by
  unfold Cert.Kernel.defs Cert.KernelIdeal.defs
  exact congrArg (Pipeline.defs Cert.KernelIdeal.pcfgs) bodies

theorem frame_kernel : Cert.quiescent_Kernel := fun m ρ _ => by
  rw [tables]
  exact kept (F := Bits) m ρ

end Cert.Proof

end
-- ==== Proof.HostRows.lean ====
/- What the kernel's call finds: each device's 256 rows of the activations, taken out by its position within its x-half. -/
module

public import proofs.«01_k».proof.Proof.Launch
public import Idealize.ShloMosaic.Lib.StableHlo.RunClose
public import Idealize.ShloMosaic.Lib.DynamicIndex
public import Idealize.ShloMosaic.Lib.ValueIdxCore

@[expose] public section

set_option backward.proofsInPublic true

noncomputable section

namespace Cert.KernelIdeal.HostRows

open Idealize.ShloMosaic Idealize.ShloMosaic.TcCoe Idealize.ShloMosaic.StableHlo Idealize.ShloMosaic.ValueIdx
open Cert.KernelIdeal.Gen Cert.KernelIdeal.Run Cert.KernelIdeal.Launch

variable {F : FTy → Type} [FloatOps F]

/-- The first row's number over 256: the y and z coordinates of partition `p`, y first. -/
def spot (p : IVec S_ 32) : IVec S_ 32 :=
  addi (muli (id (Host.remui (Host.divui p (constantI S_ 32 2#32)) (constantI S_ 32 2#32))) (constantI S_ 32 2#32))
    (id (Host.remui (Host.divui p (constantI S_ 32 1#32)) (constantI S_ 32 2#32)))
/-- The first row's number. -/
def firstRow (p : IVec S_ 32) : IVec S_ 32 := muli (spot p) (constantI S_ 32 256#32)
/-- The number the slice is given: a negative one would be counted from the end. -/
def given (p : IVec S_ 32) : IVec S_ 32 :=
  select (cmpi .slt (firstRow p) (constantI S_ 32 0#32)) (addi (firstRow p) (constantI S_ 32 1024#32)) (firstRow p)

theorem given_toInt (c : Dev nD) : (given (constantI S_ 32 (Dev.word c)) (Shape.Idx.first h_S_)).toInt = ((256 * (c.val % 4) : ℕ) : Int) := by
  revert c; decide

/-- The slice, over the two numbers it is given. -/
def taken (x : Vec F S1024x4096 .f32) (p : IVec S_ 32) : Vec F S256x4096 .f32 :=
  Host.dynamicSlice S256x4096 x
    (fun k => ((![given p, constantI S_ 32 0#32] : Fin 2 → IVec S_ 32) k (Shape.Idx.first h_S_)).toInt) sliceFits_S1024x4096_S256x4096

theorem act_after (c : Dev nD) (V : Valuation τ sig (Elt F)) :
    after (hostOps0 c) V (main_v16 : DevRef τ sig)
      = truncf .bf16 (taken (V (main_arg0 : DevRef τ sig)) (constantI S_ 32 (Dev.word c))) bitsLt_bf16_f32 := by
  after_results_entrywise []

theorem row_lt (c : Dev nD) (r : Fin 256) : 256 * (c.val % 4) + r.val < 1024 := by
  have := Nat.mod_lt c.val (show 0 < 4 by decide); have := r.isLt; omega

theorem taken_apply (x : Vec F S1024x4096 .f32) (c : Dev nD) (r : Fin 256) (k : Fin 4096) :
    taken x (constantI S_ 32 (Dev.word c)) (ix2 r k) = x (ix2 ⟨256 * (c.val % 4) + r.val, row_lt c r⟩ k) := by
  have fits : S1024x4096.Slices ![256 * (c.val % 4), 0] S256x4096 := by revert c; decide
  unfold taken
  rw [Host.dynamicSlice_eq_extractStridedSlice S256x4096 x _ ![256 * (c.val % 4), 0] _ fits fun a => by
    fin_cases a
    · exact given_toInt c
    · rfl]
  refine congrArg x (funext fun a => Fin.ext ?_)
  fin_cases a
  · rfl
  · exact Nat.zero_add _

/-- What the call finds on device `c`, row by row. -/
theorem act_apply (m : (ℓ : Loc nD τ sig) → Buf (Elt F) ℓ) (c : Dev nD) (r : Fin 256) (k : Fin 4096) :
    actOf (VA m) c (ix2 r k)
      = (truncf .bf16 (m ((c.tc : Thread nD τ).loc main_arg0)) bitsLt_bf16_f32 : FVec F S1024x4096 .bf16) (ix2 ⟨256 * (c.val % 4) + r.val, row_lt c r⟩ k) := by
  have h := congrFun (act_after c (V0 m c)) (ix2 r k)
  refine h.trans ?_
  exact congrArg (fun y : F .f32 => FloatOps.truncf .bf16 bitsLt_bf16_f32 y) (taken_apply (m ((c.tc : Thread nD τ).loc main_arg0)) c r k)

end Cert.KernelIdeal.HostRows

end
-- ==== Proof.Value.lean ====
/- What the kernel's output is on extended reals: each entry a sum of products over the two halves of the columns. -/
module

public import proofs.«01_k».proof.Proof.HostRows
public import Idealize.ShloMosaic.Lib.MatmulPlain
public import Idealize.ShloMosaic.PureOps.Ideal.Laws

@[expose] public section

set_option backward.proofsInPublic true

noncomputable section

namespace Cert.KernelIdeal.Value

open Idealize.ShloMosaic Idealize.ShloMosaic.TcCoe Idealize.ShloMosaic.ValueIdx
open Cert.KernelIdeal.Gen Cert.KernelIdeal.Steps Cert.KernelIdeal.Proto Cert.KernelIdeal.Run Cert.KernelIdeal.Launch Cert.KernelIdeal.HostRows

/-! ## The blocks -/

section Blocks

variable (X : (c : Dev nD) → Vec Ideal S256x4096 .bf16) (Wt : (c : Dev nD) → Vec Ideal S1024x4096 .f32)

theorem wrow_lt (p : Fin 4) (j : Fin 256) : 256 * p.val + j.val < 1024 := by
  have := p.isLt; have := j.isLt; omega

/-- Row `j` of the `p`-th band of the weights. -/
theorem wrow_apply (c : Dev nD) (p : Fin 4) (j : Fin 256) (k : Fin 4096) :
    wrow Wt c p (ix2 j k) = Wt c (ix2 ⟨256 * p.val + j.val, wrow_lt p j⟩ k) := by
  refine congrArg (Wt c) (funext fun a => Fin.ext ?_)
  fin_cases a
  · show 256 * p.val + 1 * j.val = 256 * p.val + j.val
    rw [one_mul]
  · show 0 + 1 * k.val = k.val
    rw [one_mul, Nat.zero_add]

/-- One product. -/
theorem prodV_apply (c : Dev nD) (p : Fin 4) (r j : Fin 256) :
    (prodV X Wt c p (ix2 r j) : EReal)
      = ∑ k : Fin 4096, (X c (ix2 r k) : EReal) * (Wt c (ix2 ⟨256 * p.val + j.val, wrow_lt p j⟩ k) : EReal) := by
  have h := Ideal.matmul_transposedRhs_apply (M := 256) (K := 4096) (N := 256) (φ₁ := .bf16) none (X c)
    (truncf .bf16 (wrow Wt c p) bitsLt_bf16_f32 : FVec Ideal S256x4096 .bf16) (constant S256x256 .f32 0x00000000#32) r j
  refine (show (prodV X Wt c p (ix2 r j) : EReal) = _ from h).trans ?_
  rw [show ((constant S256x256 .f32 0x00000000#32 : FVec Ideal S256x256 .f32) (ix2 r j) : EReal) = 0 from Ideal.ofBits_zero_f32, zero_add]
  exact Finset.sum_congr rfl fun k _ => congrArg (fun y : EReal => (X c (ix2 r k) : EReal) * y) (wrow_apply Wt c p j k)

/-- The four products side by side: column `j` is against row `j` of the weights. -/
theorem partF_apply (c : Dev nD) (r : Fin 256) (j : Fin 1024) :
    (partF X Wt c (ix2 r j) : EReal) = ∑ k : Fin 4096, (X c (ix2 r k) : EReal) * (Wt c (ix2 j k) : EReal) := by
  have e : (Shape.pair (d := ![256, 256]) r ⟨j.val % 256, Nat.mod_lt _ (by decide)⟩)
      = ix2 r ⟨j.val % 256, Nat.mod_lt _ (by decide)⟩ := by
    funext a; fin_cases a <;> rfl
  have hj : (⟨256 * (j.val / 256) + j.val % 256, by have := j.isLt; omega⟩ : Fin 1024) = j := Fin.ext (Nat.div_add_mod _ _)
  refine (congrArg (fun i => (prodV X Wt c ⟨j.val / 256, by have := j.isLt; omega⟩ i : EReal)) e).trans ?_
  refine (prodV_apply X Wt c _ r _).trans (Finset.sum_congr rfl fun k _ => ?_)
  exact congrArg (fun q : Fin 1024 => (X c (ix2 r k) : EReal) * (Wt c (ix2 q k) : EReal)) hj

/-- The device of `c`'s half that makes output row `i`. -/
def maker (c : Dev nD) (i : Fin 1024) : Dev nD := sib c ⟨i.val / 256, by have := i.isLt; omega⟩
/-- The row of its block. -/
def inner (i : Fin 1024) : Fin 256 := ⟨i.val % 256, Nat.mod_lt _ (by decide)⟩

/-- The output: the maker's sum and its partner's. -/
theorem outF_apply (c : Dev nD) (i j : Fin 1024) :
    (outF X Wt c (ix2 i j) : EReal)
      = (∑ k : Fin 4096, (X (maker c i) (ix2 (inner i) k) : EReal) * (Wt (maker c i) (ix2 j k) : EReal))
        + ∑ k : Fin 4096, (X (xdev (maker c i)) (ix2 (inner i) k) : EReal) * (Wt (xdev (maker c i)) (ix2 j k) : EReal) := by
  have e : (Shape.pair (d := ![256, 1024]) (inner i) j) = ix2 (inner i) j := by
    funext a; fin_cases a <;> rfl
  rw [← partF_apply, ← partF_apply]
  exact congrArg (fun t => (partF X Wt (maker c i) t : EReal) + (partF X Wt (xdev (maker c i)) t : EReal)) e

end Blocks

/-! ## The devices -/

theorem maker_row (c : Dev nD) (i : Fin 1024) : 256 * ((maker c i).val % 4) + (inner i).val = i.val := by
  have := i.isLt
  show 256 * ((4 * (c.val / 4) + i.val / 256) % 4) + i.val % 256 = i.val
  omega
theorem xdev_row : ∀ d : Dev nD, (xdev d).val % 4 = d.val % 4 := by decide +kernel
theorem xdev_half : ∀ d : Dev nD, (d.val / 4 = 0 ∧ (xdev d).val / 4 = 1) ∨ (d.val / 4 = 1 ∧ (xdev d).val / 4 = 0) := by decide +kernel

/-- A device's two arguments. -/
def argA (m : (ℓ : Loc nD τ sig) → Buf (Elt Ideal) ℓ) (d : Dev nD) : S1024x4096.Idx → EReal := m ((d.tc : Thread nD τ).loc main_arg0)
def argB (m : (ℓ : Loc nD τ sig) → Buf (Elt Ideal) ℓ) (d : Dev nD) : S1024x4096.Idx → EReal := m ((d.tc : Thread nD τ).loc main_arg1)

/-- The output over the arguments. -/
theorem result_apply (m : (ℓ : Loc nD τ sig) → Buf (Elt Ideal) ℓ) (c : Dev nD) (i j : Fin 1024) :
    (result m c (ix2 i j) : EReal)
      = (∑ k : Fin 4096, argA m (maker c i) (ix2 i k) * argB m (maker c i) (ix2 j k))
        + ∑ k : Fin 4096, argA m (xdev (maker c i)) (ix2 i k) * argB m (xdev (maker c i)) (ix2 j k) := by
  have side : ∀ d : Dev nD, d.val % 4 = (maker c i).val % 4 → ∀ k : Fin 4096,
      (actOf (VA m) d (ix2 (inner i) k) : EReal) * (wgtOf (VA m) d (ix2 j k) : EReal)
        = argA m d (ix2 i k) * argB m d (ix2 j k) := by
    intro d hd k
    have hr : (⟨256 * (d.val % 4) + (inner i).val, row_lt d (inner i)⟩ : Fin 1024) = i := Fin.ext (by
      show 256 * (d.val % 4) + (inner i).val = i.val
      rw [hd]; exact maker_row c i)
    have h := act_apply m d (inner i) k
    rw [hr] at h
    rw [wgt_eq m d]
    exact congrArg (fun y : EReal => y * argB m d (ix2 j k)) h
  refine (outF_apply (actOf (VA m)) (wgtOf (VA m)) c i j).trans ?_
  exact congrArg₂ (fun a b : EReal => a + b)
    (Finset.sum_congr rfl fun k _ => side _ rfl k)
    (Finset.sum_congr rfl fun k _ => side _ (xdev_row _) k)

end Cert.KernelIdeal.Value

end
-- ==== Proof.RefValue.lean ====
/- What the reference's result is on extended reals. -/
module

public import proofs.«01_k».proof.Defs
public import proofs.«01_k».proof.Proof.Gen.ReferenceIdeal.Run
public import Idealize.ShloMosaic.Lib.MatmulPlain
public import Idealize.ShloMosaic.Lib.Quiescent

@[expose] public section

set_option backward.proofsInPublic true

noncomputable section

namespace Cert.ReferenceIdeal.Product

open Idealize.ShloMosaic Idealize.ShloMosaic.TcCoe Idealize.ShloMosaic.ValueIdx Idealize.SL.Sem
open Cert.ReferenceIdeal Cert.ReferenceIdeal.Gen

/-- The product the reference makes of its two arguments. -/
def product (A B : FVec Ideal S1024x8192 .f32) : FVec Ideal S1024x1024 .f32 :=
  Host.dotGeneral dot_S1024x8192_S8192x1024_S1024x1024_1_0_0_1_n_n none A (transpose S8192x1024 [1, 0] B transposes_S1024x8192_S8192x1024_1_0)

theorem product_apply (A B : FVec Ideal S1024x8192 .f32) (i j : Fin 1024) :
    (product A B (ix2 i j) : EReal) = ∑ k : Fin 8192, (A (ix2 i k) : EReal) * (B (ix2 j k) : EReal) := by
  have h := Ideal.matmul_plain_apply (M := 1024) (K := 8192) (N := 1024) none A
    (transpose S8192x1024 [1, 0] B transposes_S1024x8192_S8192x1024_1_0 : FVec Ideal S8192x1024 .f32) (fun _ => (0 : EReal)) i j
  refine (show (product A B (ix2 i j) : EReal) = _ from h).trans ?_
  rw [zero_add]
  refine Finset.sum_congr rfl fun k _ => congrArg (fun y : EReal => (A (ix2 i k) : EReal) * y) (congrArg B (funext fun a => Fin.ext ?_))
  fin_cases a <;> rfl

/-- The sum over all the columns is the sum over the two halves. -/
theorem halves (f : Fin 8192 → EReal) :
    ∑ k : Fin 8192, f k = (∑ k : Fin 4096, f ⟨k.val, by omega⟩) + ∑ k : Fin 4096, f ⟨4096 + k.val, by omega⟩ :=
  Fin.sum_univ_add (a := 4096) (b := 4096) f

end Cert.ReferenceIdeal.Product

namespace Cert.Proof

open Idealize.ShloMosaic Idealize.SL.Sem

/-- The reference ends, keeps its arguments, and has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Agree.lean ====
/- The kernel's output is the reference's product, on every device. -/
module

public import proofs.«01_k».proof.Proof.Value
public import proofs.«01_k».proof.Proof.RefValue
public import Idealize.ShloMosaic.Lib.Layout

@[expose] public section

set_option backward.proofsInPublic true

noncomputable section

namespace Cert.Proof

open Idealize.ShloMosaic Idealize.ShloMosaic.TcCoe Idealize.ShloMosaic.ValueIdx Idealize.SL.Sem
open Cert.KernelIdeal.Value Cert.ReferenceIdeal.Product
open Cert.KernelIdeal (nD τ sig)

/-- What device `d` holds of an argument: its half of the columns. -/
abbrev half (A : Cert.ReferenceIdeal.S1024x8192.Idx → EReal) (d : Dev nD) : Cert.KernelIdeal.S1024x4096.Idx → EReal :=
  Layout.blockN ⟨2, ![1024, 4096]⟩ ⟨2, ![1024, 8192]⟩ (Layout.meshBlock [2, 2, 2] ![[], [0]] d) A

theorem at_first : ∀ d : Dev nD, Layout.meshLin [2, 2, 2] d.val [] = 0 := by decide
theorem at_second : ∀ d : Dev nD, Layout.meshLin [2, 2, 2] d.val [0] = d.val / 4 := by decide

theorem col_lt (d : Dev nD) (k : Fin 4096) : 4096 * (d.val / 4) + k.val < 8192 := by
  have h : d.val < 8 := d.isLt
  have := k.isLt; omega

theorem half_apply (A : Cert.ReferenceIdeal.S1024x8192.Idx → EReal) (d : Dev nD) (i : Fin 1024) (k : Fin 4096) :
    half A d (ix2 i k) = A (ix2 i ⟨4096 * (d.val / 4) + k.val, col_lt d k⟩) := by
  refine congrArg A (funext fun a => Fin.ext ?_)
  fin_cases a
  · show Layout.meshLin [2, 2, 2] d.val [] * 1024 + i.val = i.val
    rw [at_first]; omega
  · show Layout.meshLin [2, 2, 2] d.val [0] * 4096 + k.val = 4096 * (d.val / 4) + k.val
    rw [at_second]; omega

/-- One device's part of the sum. -/
def share (A B : Cert.ReferenceIdeal.S1024x8192.Idx → EReal) (i j : Fin 1024) (x : ℕ) (hx : x < 2) : EReal :=
  ∑ k : Fin 4096, A (ix2 i ⟨4096 * x + k.val, by omega⟩) * B (ix2 j ⟨4096 * x + k.val, by omega⟩)

theorem share_congr (A B : Cert.ReferenceIdeal.S1024x8192.Idx → EReal) (i j : Fin 1024) {x y : ℕ} (h : x = y) (hx : x < 2) (hy : y < 2) :
    share A B i j x hx = share A B i j y hy := by subst h; rfl

theorem device_lt (d : Dev nD) : d.val / 4 < 2 := by
  have h : d.val < 8 := d.isLt
  omega

theorem device_share (A B : Cert.ReferenceIdeal.S1024x8192.Idx → EReal) (d : Dev nD) (i j : Fin 1024) :
    ∑ k : Fin 4096, half A d (ix2 i k) * half B d (ix2 j k) = share A B i j (d.val / 4) (device_lt d) :=
  Finset.sum_congr rfl fun k _ => congrArg₂ (fun a b : EReal => a * b) (half_apply A d i k) (half_apply B d j k)

theorem product_shares (A B : Cert.ReferenceIdeal.S1024x8192.Idx → EReal) (i j : Fin 1024) :
    (product A B (ix2 i j) : EReal) = share A B i j 0 (by decide) + share A B i j 1 (by decide) := by
  rw [product_apply, halves]
  refine congrArg₂ (fun a b : EReal => a + b) (Finset.sum_congr rfl fun k _ => ?_) rfl
  have h : (⟨k.val, by omega⟩ : Fin 8192) = ⟨4096 * 0 + k.val, by omega⟩ := Fin.ext (by simp)
  rw [h]

/-- The equation: with each device holding its half of both arguments, its output is the whole product. -/
theorem result_eq (m : (ℓ : Loc nD τ sig) → Buf (Elt Ideal) ℓ) (A B : Cert.ReferenceIdeal.S1024x8192.Idx → EReal)
    (hA : ∀ d, argA m d = half A d) (hB : ∀ d, argB m d = half B d) (c : Dev nD) :
    Cert.KernelIdeal.Launch.result m c = product A B := by
  funext t
  obtain ⟨i, j, rfl⟩ : ∃ i j, t = ix2 i j := ⟨_, _, eq_ix2 t⟩
  refine (result_apply m c i j).trans ?_
  rw [product_shares, hA, hB, hA, hB, device_share, device_share]
  rcases xdev_half (maker c i) with ⟨h0, h1⟩ | ⟨h1, h0⟩
  · rw [share_congr A B i j h0 (device_lt _) (by decide), share_congr A B i j h1 (device_lt _) (by decide)]
  · rw [share_congr A B i j h0 (device_lt _) (by decide), share_congr A B i j h1 (device_lt _) (by decide), add_comm]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Both programs end with the product of the whole arguments. -/
theorem agree : Cert.algebraic_KernelIdeal_ReferenceIdeal := fun m g m' g' _ split =>
  ⟨Cert.ReferenceIdeal.Product.product
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨(h.1 c).2.2.trans (result_eq m _ _ (fun d => (split d).1) (fun d => (split d).2) c), (h.1 c).1, (h.1 c).2.1⟩)
      (Cert.KernelIdeal.Launch.run_main m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, agree⟩

end Cert.Proof

end
